-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_sorted_boundaries [hPre_sorted_boundaries : Cert.Pre_sorted_boundaries.Facts] (m : (ℓ : Loc Cert.KernelIdeal.nD Cert.KernelIdeal.τ Cert.KernelIdeal.sig) → Buf (Elt Ideal) ℓ) : Prop :=
  ∀ c : Dev Cert.KernelIdeal.nD,
    (Cert.Pre_sorted_boundaries.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_sorted_boundaries [hPre_sorted_boundaries : Cert.Pre_sorted_boundaries.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sorted_boundaries.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_sorted_boundaries [hKernelIdeal : Cert.KernelIdeal.Facts] [hPre_sorted_boundaries : Cert.Pre_sorted_boundaries.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_sorted_boundaries m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_sorted_boundaries [hReferenceIdeal : Cert.ReferenceIdeal.Facts] [hPre_sorted_boundaries : Cert.Pre_sorted_boundaries.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sorted_boundaries m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_sorted_boundaries [hKernelIdeal : Cert.KernelIdeal.Facts] [hReferenceIdeal : Cert.ReferenceIdeal.Facts] [hPre_sorted_boundaries : Cert.Pre_sorted_boundaries.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_sorted_boundaries m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_sorted_boundaries : Cert.Pre_sorted_boundaries.Facts),
    quiescent_Kernel (hKernel := hKernel)
    ∧ quiescent_KernelIdeal (hKernelIdeal := hKernelIdeal)
    ∧ quiescent_KernelIdeal_pre_sorted_boundaries (hKernelIdeal := hKernelIdeal) (hPre_sorted_boundaries := hPre_sorted_boundaries)
    ∧ quiescent_ReferenceIdeal (hReferenceIdeal := hReferenceIdeal)
    ∧ quiescent_ReferenceIdeal_pre_sorted_boundaries (hReferenceIdeal := hReferenceIdeal) (hPre_sorted_boundaries := hPre_sorted_boundaries)
    ∧ preserves_Kernel_KernelIdeal
    ∧ algebraic_KernelIdeal_ReferenceIdeal_pre_sorted_boundaries (hKernelIdeal := hKernelIdeal) (hReferenceIdeal := hReferenceIdeal) (hPre_sorted_boundaries := hPre_sorted_boundaries)
-- ==== Pre_sorted_boundaries.lean ====
abbrev S16777216 : Shape := ⟨1, ![16777216]⟩
abbrev S32 : Shape := ⟨1, ![32]⟩
abbrev S31 : Shape := ⟨1, ![31]⟩
abbrev S_ : Shape := ⟨0, ![]⟩

class Facts : Prop where
  slices_S32_S31_0 : S32.Slices ![0] S31
  slices_S32_S31_1 : S32.Slices ![1] S31
  reducesTo_S31_S_d0 : S31.ReducesTo [0] S_
  h_S_ : 0 < S_.numel

variable [Facts]

def fn {F : FTy → Type} [FloatOps F] (main_arg0 : FVec F S16777216 .f32) (main_arg1 : FVec F S32 .f32) : IVec S_ 1 :=
  let main_v0 : FVec F S31 .f32 := (extractStridedSlice S31 ![0] · slices_S32_S31_0) main_arg1
  let main_v1 : FVec F S31 .f32 := (extractStridedSlice S31 ![1] · slices_S32_S31_1) main_arg1
  let main_v2 : IVec S31 1 := cmpf .ole main_v0 main_v1
  let main_c : IVec S_ 1 := constantI S_ 1 1#1
  let main_v3 : IVec S_ 1 := (fun x v => Host.reduce IntOp.andi x v reducesTo_S31_S_d0 h_S_) main_v2 main_c
  main_v3
-- ==== Kernel.lean ====
abbrev S16777216 : Shape := ⟨1, ![16777216]⟩
abbrev S32 : Shape := ⟨1, ![32]⟩
abbrev S16384 : Shape := ⟨1, ![16384]⟩
abbrev S_ : Shape := ⟨0, ![]⟩
abbrev S16 : Shape := ⟨1, ![16]⟩

abbrev nBuf : Table → Nat
  | .hbm => 3
  | .local .scVector .vmem => 5
  | _ => 0

abbrev bufTy : (tb : Table) → Fin (nBuf tb) → BufTy
  | .hbm, ⟨0, _⟩ => ⟨S16777216, .f32⟩
  | .hbm, ⟨1, _⟩ => ⟨S32, .f32⟩
  | .hbm, ⟨2, _⟩ => ⟨S16777216, .i32⟩
  | .local .scVector .vmem, ⟨0, _⟩ => ⟨S32, .f32⟩
  | .local .scVector .vmem, ⟨1, _⟩ => ⟨S16384, .f32⟩
  | .local .scVector .vmem, ⟨2, _⟩ => ⟨S16384, .f32⟩
  | .local .scVector .vmem, ⟨3, _⟩ => ⟨S16384, .i32⟩
  | .local .scVector .vmem, ⟨4, _⟩ => ⟨S16384, .i32⟩
  | _, _ => ⟨S16777216, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => false
  | ⟨4, _⟩ => false
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg0_scv : Ref sig .scVector := ⟨.hbm, 0, rfl⟩
abbrev main_arg1_scv : Ref sig .scVector := ⟨.hbm, 1, rfl⟩
abbrev main_v0_scv : Ref sig .scVector := ⟨.hbm, 2, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c524288_i32 : BitVec 32 := 524288#32
  let v2 : BitVec 32 := Scalar.muli v1 c524288_i32
  let v3 : BitVec 32 := Scalar.addi v2 c0_i32
  ![v3.toNat]
@[reducible] def k0_t1_loop : Scf.Loop 32 :=
  let c0_i32_1 : BitVec 32 := 0#32
  let c1024_i32 : BitVec 32 := 1024#32
  let v11 : BitVec 32 := Scalar.addi c0_i32_1 c1024_i32
  let c1_i32 : BitVec 32 := 1#32
  ⟨c0_i32_1, v11, c1_i32⟩
def k0_off2 (k0_t1 : Fin k0_t1_loop.trips) : Fin 1 → Nat :=
  let c0_i32_1 : BitVec 32 := 0#32
  let c1_i32 : BitVec 32 := 1#32
  let arg14 : BitVec 32 := Scf.iv c0_i32_1 c1_i32 k0_t1
  let c16_i32 : BitVec 32 := 16#32
  let v387 : BitVec 32 := Scalar.muli arg14 c16_i32
  let v388 : Index := Scalar.indexCast v387
  ![v388.toNat]

def k0_chk1 (v393 : IVec S16 32) : Prop :=
  (∀ a x, ((![v393] : Fin 1 → IVec S16 32) a x).toNat < S32.size a)
theorem k0_idx1_inb : ∀ (v393 : IVec S16 32) (k0_hw1 : k0_chk1 v393), ∀ a x, ((![v393] : Fin 1 → IVec S16 32) a x).toNat < S32.size a := fun v393 k0_hw1 => k0_hw1

def k0_chk2 (v400 : IVec S16 32) : Prop :=
  (∀ a x, ((![v400] : Fin 1 → IVec S16 32) a x).toNat < S32.size a)
theorem k0_idx2_inb : ∀ (v400 : IVec S16 32) (k0_hw2 : k0_chk2 v400), ∀ a x, ((![v400] : Fin 1 → IVec S16 32) a x).toNat < S32.size a := fun v400 k0_hw2 => k0_hw2

def k0_chk3 (v407 : IVec S16 32) : Prop :=
  (∀ a x, ((![v407] : Fin 1 → IVec S16 32) a x).toNat < S32.size a)
theorem k0_idx3_inb : ∀ (v407 : IVec S16 32) (k0_hw3 : k0_chk3 v407), ∀ a x, ((![v407] : Fin 1 → IVec S16 32) a x).toNat < S32.size a := fun v407 k0_hw3 => k0_hw3

def k0_chk4 (v414 : IVec S16 32) : Prop :=
  (∀ a x, ((![v414] : Fin 1 → IVec S16 32) a x).toNat < S32.size a)
theorem k0_idx4_inb : ∀ (v414 : IVec S16 32) (k0_hw4 : k0_chk4 v414), ∀ a x, ((![v414] : Fin 1 → IVec S16 32) a x).toNat < S32.size a := fun v414 k0_hw4 => k0_hw4

def k0_chk5 (v421 : IVec S16 32) : Prop :=
  (∀ a x, ((![v421] : Fin 1 → IVec S16 32) a x).toNat < S32.size a)
theorem k0_idx5_inb : ∀ (v421 : IVec S16 32) (k0_hw5 : k0_chk5 v421), ∀ a x, ((![v421] : Fin 1 → IVec S16 32) a x).toNat < S32.size a := fun v421 k0_hw5 => k0_hw5

def k0_chk6 (v426 : IVec S16 32) : Prop :=
  (∀ a x, ((![v426] : Fin 1 → IVec S16 32) a x).toNat < S32.size a)
theorem k0_idx6_inb : ∀ (v426 : IVec S16 32) (k0_hw6 : k0_chk6 v426), ∀ a x, ((![v426] : Fin 1 → IVec S16 32) a x).toNat < S32.size a := fun v426 k0_hw6 => k0_hw6
def k0_off3 (k0_t1 : Fin k0_t1_loop.trips) : Fin 1 → Nat :=
  let c0_i32_1 : BitVec 32 := 0#32
  let c1_i32 : BitVec 32 := 1#32
  let arg14 : BitVec 32 := Scf.iv c0_i32_1 c1_i32 k0_t1
  let c16_i32_196 : BitVec 32 := 16#32
  let v431 : BitVec 32 := Scalar.muli arg14 c16_i32_196
  let v432 : Index := Scalar.indexCast v431
  ![v432.toNat]
@[reducible] def k0_t2_loop : Scf.Loop 32 :=
  let c0_i32_5 : BitVec 32 := 0#32
  let c1024_i32_6 : BitVec 32 := 1024#32
  let v21 : BitVec 32 := Scalar.addi c0_i32_5 c1024_i32_6
  let c1_i32_7 : BitVec 32 := 1#32
  ⟨c0_i32_5, v21, c1_i32_7⟩
def k0_off4 (k0_t2 : Fin k0_t2_loop.trips) : Fin 1 → Nat :=
  let c0_i32_5 : BitVec 32 := 0#32
  let c1_i32_7 : BitVec 32 := 1#32
  let arg14 : BitVec 32 := Scf.iv c0_i32_5 c1_i32_7 k0_t2
  let c16_i32 : BitVec 32 := 16#32
  let v387 : BitVec 32 := Scalar.muli arg14 c16_i32
  let v388 : Index := Scalar.indexCast v387
  ![v388.toNat]

def k0_chk7 (v393 : IVec S16 32) : Prop :=
  (∀ a x, ((![v393] : Fin 1 → IVec S16 32) a x).toNat < S32.size a)
theorem k0_idx7_inb : ∀ (v393 : IVec S16 32) (k0_hw7 : k0_chk7 v393), ∀ a x, ((![v393] : Fin 1 → IVec S16 32) a x).toNat < S32.size a := fun v393 k0_hw7 => k0_hw7

def k0_chk8 (v400 : IVec S16 32) : Prop :=
  (∀ a x, ((![v400] : Fin 1 → IVec S16 32) a x).toNat < S32.size a)
theorem k0_idx8_inb : ∀ (v400 : IVec S16 32) (k0_hw8 : k0_chk8 v400), ∀ a x, ((![v400] : Fin 1 → IVec S16 32) a x).toNat < S32.size a := fun v400 k0_hw8 => k0_hw8

def k0_chk9 (v407 : IVec S16 32) : Prop :=
  (∀ a x, ((![v407] : Fin 1 → IVec S16 32) a x).toNat < S32.size a)
theorem k0_idx9_inb : ∀ (v407 : IVec S16 32) (k0_hw9 : k0_chk9 v407), ∀ a x, ((![v407] : Fin 1 → IVec S16 32) a x).toNat < S32.size a := fun v407 k0_hw9 => k0_hw9

def k0_chk10 (v414 : IVec S16 32) : Prop :=
  (∀ a x, ((![v414] : Fin 1 → IVec S16 32) a x).toNat < S32.size a)
theorem k0_idx10_inb : ∀ (v414 : IVec S16 32) (k0_hw10 : k0_chk10 v414), ∀ a x, ((![v414] : Fin 1 → IVec S16 32) a x).toNat < S32.size a := fun v414 k0_hw10 => k0_hw10

def k0_chk11 (v421 : IVec S16 32) : Prop :=
  (∀ a x, ((![v421] : Fin 1 → IVec S16 32) a x).toNat < S32.size a)
theorem k0_idx11_inb : ∀ (v421 : IVec S16 32) (k0_hw11 : k0_chk11 v421), ∀ a x, ((![v421] : Fin 1 → IVec S16 32) a x).toNat < S32.size a := fun v421 k0_hw11 => k0_hw11

def k0_chk12 (v426 : IVec S16 32) : Prop :=
  (∀ a x, ((![v426] : Fin 1 → IVec S16 32) a x).toNat < S32.size a)
theorem k0_idx12_inb : ∀ (v426 : IVec S16 32) (k0_hw12 : k0_chk12 v426), ∀ a x, ((![v426] : Fin 1 → IVec S16 32) a x).toNat < S32.size a := fun v426 k0_hw12 => k0_hw12
def k0_off5 (k0_t2 : Fin k0_t2_loop.trips) : Fin 1 → Nat :=
  let c0_i32_5 : BitVec 32 := 0#32
  let c1_i32_7 : BitVec 32 := 1#32
  let arg14 : BitVec 32 := Scf.iv c0_i32_5 c1_i32_7 k0_t2
  let c16_i32_196 : BitVec 32 := 16#32
  let v431 : BitVec 32 := Scalar.muli arg14 c16_i32_196
  let v432 : Index := Scalar.indexCast v431
  ![v432.toNat]
@[reducible] def k0_t3_loop : Scf.Loop 32 :=
  let c0_i32_11 : BitVec 32 := 0#32
  let c1024_i32_12 : BitVec 32 := 1024#32
  let v33 : BitVec 32 := Scalar.addi c0_i32_11 c1024_i32_12
  let c1_i32_13 : BitVec 32 := 1#32
  ⟨c0_i32_11, v33, c1_i32_13⟩
def k0_off6 (k0_t3 : Fin k0_t3_loop.trips) : Fin 1 → Nat :=
  let c0_i32_11 : BitVec 32 := 0#32
  let c1_i32_13 : BitVec 32 := 1#32
  let arg14 : BitVec 32 := Scf.iv c0_i32_11 c1_i32_13 k0_t3
  let c16_i32 : BitVec 32 := 16#32
  let v387 : BitVec 32 := Scalar.muli arg14 c16_i32
  let v388 : Index := Scalar.indexCast v387
  ![v388.toNat]

def k0_chk13 (v393 : IVec S16 32) : Prop :=
  (∀ a x, ((![v393] : Fin 1 → IVec S16 32) a x).toNat < S32.size a)
theorem k0_idx13_inb : ∀ (v393 : IVec S16 32) (k0_hw13 : k0_chk13 v393), ∀ a x, ((![v393] : Fin 1 → IVec S16 32) a x).toNat < S32.size a := fun v393 k0_hw13 => k0_hw13

def k0_chk14 (v400 : IVec S16 32) : Prop :=
  (∀ a x, ((![v400] : Fin 1 → IVec S16 32) a x).toNat < S32.size a)
theorem k0_idx14_inb : ∀ (v400 : IVec S16 32) (k0_hw14 : k0_chk14 v400), ∀ a x, ((![v400] : Fin 1 → IVec S16 32) a x).toNat < S32.size a := fun v400 k0_hw14 => k0_hw14

def k0_chk15 (v407 : IVec S16 32) : Prop :=
  (∀ a x, ((![v407] : Fin 1 → IVec S16 32) a x).toNat < S32.size a)
theorem k0_idx15_inb : ∀ (v407 : IVec S16 32) (k0_hw15 : k0_chk15 v407), ∀ a x, ((![v407] : Fin 1 → IVec S16 32) a x).toNat < S32.size a := fun v407 k0_hw15 => k0_hw15

def k0_chk16 (v414 : IVec S16 32) : Prop :=
  (∀ a x, ((![v414] : Fin 1 → IVec S16 32) a x).toNat < S32.size a)
theorem k0_idx16_inb : ∀ (v414 : IVec S16 32) (k0_hw16 : k0_chk16 v414), ∀ a x, ((![v414] : Fin 1 → IVec S16 32) a x).toNat < S32.size a := fun v414 k0_hw16 => k0_hw16

def k0_chk17 (v421 : IVec S16 32) : Prop :=
  (∀ a x, ((![v421] : Fin 1 → IVec S16 32) a x).toNat < S32.size a)
theorem k0_idx17_inb : ∀ (v421 : IVec S16 32) (k0_hw17 : k0_chk17 v421), ∀ a x, ((![v421] : Fin 1 → IVec S16 32) a x).toNat < S32.size a := fun v421 k0_hw17 => k0_hw17

def k0_chk18 (v426 : IVec S16 32) : Prop :=
  (∀ a x, ((![v426] : Fin 1 → IVec S16 32) a x).toNat < S32.size a)
theorem k0_idx18_inb : ∀ (v426 : IVec S16 32) (k0_hw18 : k0_chk18 v426), ∀ a x, ((![v426] : Fin 1 → IVec S16 32) a x).toNat < S32.size a := fun v426 k0_hw18 => k0_hw18
def k0_off7 (k0_t3 : Fin k0_t3_loop.trips) : Fin 1 → Nat :=
  let c0_i32_11 : BitVec 32 := 0#32
  let c1_i32_13 : BitVec 32 := 1#32
  let arg14 : BitVec 32 := Scf.iv c0_i32_11 c1_i32_13 k0_t3
  let c16_i32_196 : BitVec 32 := 16#32
  let v431 : BitVec 32 := Scalar.muli arg14 c16_i32_196
  let v432 : Index := Scalar.indexCast v431
  ![v432.toNat]
@[reducible] def k0_t4_loop : Scf.Loop 32 :=
  let c0_i32_17 : BitVec 32 := 0#32
  let c1024_i32_18 : BitVec 32 := 1024#32
  let v45 : BitVec 32 := Scalar.addi c0_i32_17 c1024_i32_18
  let c1_i32_19 : BitVec 32 := 1#32
  ⟨c0_i32_17, v45, c1_i32_19⟩
def k0_off8 (k0_t4 : Fin k0_t4_loop.trips) : Fin 1 → Nat :=
  let c0_i32_17 : BitVec 32 := 0#32
  let c1_i32_19 : BitVec 32 := 1#32
  let arg14 : BitVec 32 := Scf.iv c0_i32_17 c1_i32_19 k0_t4
  let c16_i32 : BitVec 32 := 16#32
  let v387 : BitVec 32 := Scalar.muli arg14 c16_i32
  let v388 : Index := Scalar.indexCast v387
  ![v388.toNat]

def k0_chk19 (v393 : IVec S16 32) : Prop :=
  (∀ a x, ((![v393] : Fin 1 → IVec S16 32) a x).toNat < S32.size a)
theorem k0_idx19_inb : ∀ (v393 : IVec S16 32) (k0_hw19 : k0_chk19 v393), ∀ a x, ((![v393] : Fin 1 → IVec S16 32) a x).toNat < S32.size a := fun v393 k0_hw19 => k0_hw19

def k0_chk20 (v400 : IVec S16 32) : Prop :=
  (∀ a x, ((![v400] : Fin 1 → IVec S16 32) a x).toNat < S32.size a)
theorem k0_idx20_inb : ∀ (v400 : IVec S16 32) (k0_hw20 : k0_chk20 v400), ∀ a x, ((![v400] : Fin 1 → IVec S16 32) a x).toNat < S32.size a := fun v400 k0_hw20 => k0_hw20

def k0_chk21 (v407 : IVec S16 32) : Prop :=
  (∀ a x, ((![v407] : Fin 1 → IVec S16 32) a x).toNat < S32.size a)
theorem k0_idx21_inb : ∀ (v407 : IVec S16 32) (k0_hw21 : k0_chk21 v407), ∀ a x, ((![v407] : Fin 1 → IVec S16 32) a x).toNat < S32.size a := fun v407 k0_hw21 => k0_hw21

def k0_chk22 (v414 : IVec S16 32) : Prop :=
  (∀ a x, ((![v414] : Fin 1 → IVec S16 32) a x).toNat < S32.size a)
theorem k0_idx22_inb : ∀ (v414 : IVec S16 32) (k0_hw22 : k0_chk22 v414), ∀ a x, ((![v414] : Fin 1 → IVec S16 32) a x).toNat < S32.size a := fun v414 k0_hw22 => k0_hw22

def k0_chk23 (v421 : IVec S16 32) : Prop :=
  (∀ a x, ((![v421] : Fin 1 → IVec S16 32) a x).toNat < S32.size a)
theorem k0_idx23_inb : ∀ (v421 : IVec S16 32) (k0_hw23 : k0_chk23 v421), ∀ a x, ((![v421] : Fin 1 → IVec S16 32) a x).toNat < S32.size a := fun v421 k0_hw23 => k0_hw23

def k0_chk24 (v426 : IVec S16 32) : Prop :=
  (∀ a x, ((![v426] : Fin 1 → IVec S16 32) a x).toNat < S32.size a)
theorem k0_idx24_inb : ∀ (v426 : IVec S16 32) (k0_hw24 : k0_chk24 v426), ∀ a x, ((![v426] : Fin 1 → IVec S16 32) a x).toNat < S32.size a := fun v426 k0_hw24 => k0_hw24
def k0_off9 (k0_t4 : Fin k0_t4_loop.trips) : Fin 1 → Nat :=
  let c0_i32_17 : BitVec 32 := 0#32
  let c1_i32_19 : BitVec 32 := 1#32
  let arg14 : BitVec 32 := Scf.iv c0_i32_17 c1_i32_19 k0_t4
  let c16_i32_196 : BitVec 32 := 16#32
  let v431 : BitVec 32 := Scalar.muli arg14 c16_i32_196
  let v432 : Index := Scalar.indexCast v431
  ![v432.toNat]
@[reducible] def k0_t5_loop : Scf.Loop 32 :=
  let c0_i32_23 : BitVec 32 := 0#32
  let c1024_i32_24 : BitVec 32 := 1024#32
  let v57 : BitVec 32 := Scalar.addi c0_i32_23 c1024_i32_24
  let c1_i32_25 : BitVec 32 := 1#32
  ⟨c0_i32_23, v57, c1_i32_25⟩
def k0_off10 (k0_t5 : Fin k0_t5_loop.trips) : Fin 1 → Nat :=
  let c0_i32_23 : BitVec 32 := 0#32
  let c1_i32_25 : BitVec 32 := 1#32
  let arg14 : BitVec 32 := Scf.iv c0_i32_23 c1_i32_25 k0_t5
  let c16_i32 : BitVec 32 := 16#32
  let v387 : BitVec 32 := Scalar.muli arg14 c16_i32
  let v388 : Index := Scalar.indexCast v387
  ![v388.toNat]

def k0_chk25 (v393 : IVec S16 32) : Prop :=
  (∀ a x, ((![v393] : Fin 1 → IVec S16 32) a x).toNat < S32.size a)
theorem k0_idx25_inb : ∀ (v393 : IVec S16 32) (k0_hw25 : k0_chk25 v393), ∀ a x, ((![v393] : Fin 1 → IVec S16 32) a x).toNat < S32.size a := fun v393 k0_hw25 => k0_hw25

def k0_chk26 (v400 : IVec S16 32) : Prop :=
  (∀ a x, ((![v400] : Fin 1 → IVec S16 32) a x).toNat < S32.size a)
theorem k0_idx26_inb : ∀ (v400 : IVec S16 32) (k0_hw26 : k0_chk26 v400), ∀ a x, ((![v400] : Fin 1 → IVec S16 32) a x).toNat < S32.size a := fun v400 k0_hw26 => k0_hw26

def k0_chk27 (v407 : IVec S16 32) : Prop :=
  (∀ a x, ((![v407] : Fin 1 → IVec S16 32) a x).toNat < S32.size a)
theorem k0_idx27_inb : ∀ (v407 : IVec S16 32) (k0_hw27 : k0_chk27 v407), ∀ a x, ((![v407] : Fin 1 → IVec S16 32) a x).toNat < S32.size a := fun v407 k0_hw27 => k0_hw27

def k0_chk28 (v414 : IVec S16 32) : Prop :=
  (∀ a x, ((![v414] : Fin 1 → IVec S16 32) a x).toNat < S32.size a)
theorem k0_idx28_inb : ∀ (v414 : IVec S16 32) (k0_hw28 : k0_chk28 v414), ∀ a x, ((![v414] : Fin 1 → IVec S16 32) a x).toNat < S32.size a := fun v414 k0_hw28 => k0_hw28

def k0_chk29 (v421 : IVec S16 32) : Prop :=
  (∀ a x, ((![v421] : Fin 1 → IVec S16 32) a x).toNat < S32.size a)
theorem k0_idx29_inb : ∀ (v421 : IVec S16 32) (k0_hw29 : k0_chk29 v421), ∀ a x, ((![v421] : Fin 1 → IVec S16 32) a x).toNat < S32.size a := fun v421 k0_hw29 => k0_hw29

def k0_chk30 (v426 : IVec S16 32) : Prop :=
  (∀ a x, ((![v426] : Fin 1 → IVec S16 32) a x).toNat < S32.size a)
theorem k0_idx30_inb : ∀ (v426 : IVec S16 32) (k0_hw30 : k0_chk30 v426), ∀ a x, ((![v426] : Fin 1 → IVec S16 32) a x).toNat < S32.size a := fun v426 k0_hw30 => k0_hw30
def k0_off11 (k0_t5 : Fin k0_t5_loop.trips) : Fin 1 → Nat :=
  let c0_i32_23 : BitVec 32 := 0#32
  let c1_i32_25 : BitVec 32 := 1#32
  let arg14 : BitVec 32 := Scf.iv c0_i32_23 c1_i32_25 k0_t5
  let c16_i32_196 : BitVec 32 := 16#32
  let v431 : BitVec 32 := Scalar.muli arg14 c16_i32_196
  let v432 : Index := Scalar.indexCast v431
  ![v432.toNat]
@[reducible] def k0_t6_loop : Scf.Loop 32 :=
  let c0_i32_29 : BitVec 32 := 0#32
  let c1024_i32_30 : BitVec 32 := 1024#32
  let v69 : BitVec 32 := Scalar.addi c0_i32_29 c1024_i32_30
  let c1_i32_31 : BitVec 32 := 1#32
  ⟨c0_i32_29, v69, c1_i32_31⟩
def k0_off12 (k0_t6 : Fin k0_t6_loop.trips) : Fin 1 → Nat :=
  let c0_i32_29 : BitVec 32 := 0#32
  let c1_i32_31 : BitVec 32 := 1#32
  let arg14 : BitVec 32 := Scf.iv c0_i32_29 c1_i32_31 k0_t6
  let c16_i32 : BitVec 32 := 16#32
  let v387 : BitVec 32 := Scalar.muli arg14 c16_i32
  let v388 : Index := Scalar.indexCast v387
  ![v388.toNat]

def k0_chk31 (v393 : IVec S16 32) : Prop :=
  (∀ a x, ((![v393] : Fin 1 → IVec S16 32) a x).toNat < S32.size a)
theorem k0_idx31_inb : ∀ (v393 : IVec S16 32) (k0_hw31 : k0_chk31 v393), ∀ a x, ((![v393] : Fin 1 → IVec S16 32) a x).toNat < S32.size a := fun v393 k0_hw31 => k0_hw31

def k0_chk32 (v400 : IVec S16 32) : Prop :=
  (∀ a x, ((![v400] : Fin 1 → IVec S16 32) a x).toNat < S32.size a)
theorem k0_idx32_inb : ∀ (v400 : IVec S16 32) (k0_hw32 : k0_chk32 v400), ∀ a x, ((![v400] : Fin 1 → IVec S16 32) a x).toNat < S32.size a := fun v400 k0_hw32 => k0_hw32

def k0_chk33 (v407 : IVec S16 32) : Prop :=
  (∀ a x, ((![v407] : Fin 1 → IVec S16 32) a x).toNat < S32.size a)
theorem k0_idx33_inb : ∀ (v407 : IVec S16 32) (k0_hw33 : k0_chk33 v407), ∀ a x, ((![v407] : Fin 1 → IVec S16 32) a x).toNat < S32.size a := fun v407 k0_hw33 => k0_hw33

def k0_chk34 (v414 : IVec S16 32) : Prop :=
  (∀ a x, ((![v414] : Fin 1 → IVec S16 32) a x).toNat < S32.size a)
theorem k0_idx34_inb : ∀ (v414 : IVec S16 32) (k0_hw34 : k0_chk34 v414), ∀ a x, ((![v414] : Fin 1 → IVec S16 32) a x).toNat < S32.size a := fun v414 k0_hw34 => k0_hw34

def k0_chk35 (v421 : IVec S16 32) : Prop :=
  (∀ a x, ((![v421] : Fin 1 → IVec S16 32) a x).toNat < S32.size a)
theorem k0_idx35_inb : ∀ (v421 : IVec S16 32) (k0_hw35 : k0_chk35 v421), ∀ a x, ((![v421] : Fin 1 → IVec S16 32) a x).toNat < S32.size a := fun v421 k0_hw35 => k0_hw35

def k0_chk36 (v426 : IVec S16 32) : Prop :=
  (∀ a x, ((![v426] : Fin 1 → IVec S16 32) a x).toNat < S32.size a)
theorem k0_idx36_inb : ∀ (v426 : IVec S16 32) (k0_hw36 : k0_chk36 v426), ∀ a x, ((![v426] : Fin 1 → IVec S16 32) a x).toNat < S32.size a := fun v426 k0_hw36 => k0_hw36
def k0_off13 (k0_t6 : Fin k0_t6_loop.trips) : Fin 1 → Nat :=
  let c0_i32_29 : BitVec 32 := 0#32
  let c1_i32_31 : BitVec 32 := 1#32
  let arg14 : BitVec 32 := Scf.iv c0_i32_29 c1_i32_31 k0_t6
  let c16_i32_196 : BitVec 32 := 16#32
  let v431 : BitVec 32 := Scalar.muli arg14 c16_i32_196
  let v432 : Index := Scalar.indexCast v431
  ![v432.toNat]
@[reducible] def k0_t7_loop : Scf.Loop 32 :=
  let c0_i32_35 : BitVec 32 := 0#32
  let c1024_i32_36 : BitVec 32 := 1024#32
  let v81 : BitVec 32 := Scalar.addi c0_i32_35 c1024_i32_36
  let c1_i32_37 : BitVec 32 := 1#32
  ⟨c0_i32_35, v81, c1_i32_37⟩
def k0_off14 (k0_t7 : Fin k0_t7_loop.trips) : Fin 1 → Nat :=
  let c0_i32_35 : BitVec 32 := 0#32
  let c1_i32_37 : BitVec 32 := 1#32
  let arg14 : BitVec 32 := Scf.iv c0_i32_35 c1_i32_37 k0_t7
  let c16_i32 : BitVec 32 := 16#32
  let v387 : BitVec 32 := Scalar.muli arg14 c16_i32
  let v388 : Index := Scalar.indexCast v387
  ![v388.toNat]

def k0_chk37 (v393 : IVec S16 32) : Prop :=
  (∀ a x, ((![v393] : Fin 1 → IVec S16 32) a x).toNat < S32.size a)
theorem k0_idx37_inb : ∀ (v393 : IVec S16 32) (k0_hw37 : k0_chk37 v393), ∀ a x, ((![v393] : Fin 1 → IVec S16 32) a x).toNat < S32.size a := fun v393 k0_hw37 => k0_hw37

def k0_chk38 (v400 : IVec S16 32) : Prop :=
  (∀ a x, ((![v400] : Fin 1 → IVec S16 32) a x).toNat < S32.size a)
theorem k0_idx38_inb : ∀ (v400 : IVec S16 32) (k0_hw38 : k0_chk38 v400), ∀ a x, ((![v400] : Fin 1 → IVec S16 32) a x).toNat < S32.size a := fun v400 k0_hw38 => k0_hw38

def k0_chk39 (v407 : IVec S16 32) : Prop :=
  (∀ a x, ((![v407] : Fin 1 → IVec S16 32) a x).toNat < S32.size a)
theorem k0_idx39_inb : ∀ (v407 : IVec S16 32) (k0_hw39 : k0_chk39 v407), ∀ a x, ((![v407] : Fin 1 → IVec S16 32) a x).toNat < S32.size a := fun v407 k0_hw39 => k0_hw39

def k0_chk40 (v414 : IVec S16 32) : Prop :=
  (∀ a x, ((![v414] : Fin 1 → IVec S16 32) a x).toNat < S32.size a)
theorem k0_idx40_inb : ∀ (v414 : IVec S16 32) (k0_hw40 : k0_chk40 v414), ∀ a x, ((![v414] : Fin 1 → IVec S16 32) a x).toNat < S32.size a := fun v414 k0_hw40 => k0_hw40

def k0_chk41 (v421 : IVec S16 32) : Prop :=
  (∀ a x, ((![v421] : Fin 1 → IVec S16 32) a x).toNat < S32.size a)
theorem k0_idx41_inb : ∀ (v421 : IVec S16 32) (k0_hw41 : k0_chk41 v421), ∀ a x, ((![v421] : Fin 1 → IVec S16 32) a x).toNat < S32.size a := fun v421 k0_hw41 => k0_hw41

def k0_chk42 (v426 : IVec S16 32) : Prop :=
  (∀ a x, ((![v426] : Fin 1 → IVec S16 32) a x).toNat < S32.size a)
theorem k0_idx42_inb : ∀ (v426 : IVec S16 32) (k0_hw42 : k0_chk42 v426), ∀ a x, ((![v426] : Fin 1 → IVec S16 32) a x).toNat < S32.size a := fun v426 k0_hw42 => k0_hw42
def k0_off15 (k0_t7 : Fin k0_t7_loop.trips) : Fin 1 → Nat :=
  let c0_i32_35 : BitVec 32 := 0#32
  let c1_i32_37 : BitVec 32 := 1#32
  let arg14 : BitVec 32 := Scf.iv c0_i32_35 c1_i32_37 k0_t7
  let c16_i32_196 : BitVec 32 := 16#32
  let v431 : BitVec 32 := Scalar.muli arg14 c16_i32_196
  let v432 : Index := Scalar.indexCast v431
  ![v432.toNat]
@[reducible] def k0_t8_loop : Scf.Loop 32 :=
  let c0_i32_41 : BitVec 32 := 0#32
  let c1024_i32_42 : BitVec 32 := 1024#32
  let v93 : BitVec 32 := Scalar.addi c0_i32_41 c1024_i32_42
  let c1_i32_43 : BitVec 32 := 1#32
  ⟨c0_i32_41, v93, c1_i32_43⟩
def k0_off16 (k0_t8 : Fin k0_t8_loop.trips) : Fin 1 → Nat :=
  let c0_i32_41 : BitVec 32 := 0#32
  let c1_i32_43 : BitVec 32 := 1#32
  let arg14 : BitVec 32 := Scf.iv c0_i32_41 c1_i32_43 k0_t8
  let c16_i32 : BitVec 32 := 16#32
  let v387 : BitVec 32 := Scalar.muli arg14 c16_i32
  let v388 : Index := Scalar.indexCast v387
  ![v388.toNat]

def k0_chk43 (v393 : IVec S16 32) : Prop :=
  (∀ a x, ((![v393] : Fin 1 → IVec S16 32) a x).toNat < S32.size a)
theorem k0_idx43_inb : ∀ (v393 : IVec S16 32) (k0_hw43 : k0_chk43 v393), ∀ a x, ((![v393] : Fin 1 → IVec S16 32) a x).toNat < S32.size a := fun v393 k0_hw43 => k0_hw43

def k0_chk44 (v400 : IVec S16 32) : Prop :=
  (∀ a x, ((![v400] : Fin 1 → IVec S16 32) a x).toNat < S32.size a)
theorem k0_idx44_inb : ∀ (v400 : IVec S16 32) (k0_hw44 : k0_chk44 v400), ∀ a x, ((![v400] : Fin 1 → IVec S16 32) a x).toNat < S32.size a := fun v400 k0_hw44 => k0_hw44

def k0_chk45 (v407 : IVec S16 32) : Prop :=
  (∀ a x, ((![v407] : Fin 1 → IVec S16 32) a x).toNat < S32.size a)
theorem k0_idx45_inb : ∀ (v407 : IVec S16 32) (k0_hw45 : k0_chk45 v407), ∀ a x, ((![v407] : Fin 1 → IVec S16 32) a x).toNat < S32.size a := fun v407 k0_hw45 => k0_hw45

def k0_chk46 (v414 : IVec S16 32) : Prop :=
  (∀ a x, ((![v414] : Fin 1 → IVec S16 32) a x).toNat < S32.size a)
theorem k0_idx46_inb : ∀ (v414 : IVec S16 32) (k0_hw46 : k0_chk46 v414), ∀ a x, ((![v414] : Fin 1 → IVec S16 32) a x).toNat < S32.size a := fun v414 k0_hw46 => k0_hw46

def k0_chk47 (v421 : IVec S16 32) : Prop :=
  (∀ a x, ((![v421] : Fin 1 → IVec S16 32) a x).toNat < S32.size a)
theorem k0_idx47_inb : ∀ (v421 : IVec S16 32) (k0_hw47 : k0_chk47 v421), ∀ a x, ((![v421] : Fin 1 → IVec S16 32) a x).toNat < S32.size a := fun v421 k0_hw47 => k0_hw47

def k0_chk48 (v426 : IVec S16 32) : Prop :=
  (∀ a x, ((![v426] : Fin 1 → IVec S16 32) a x).toNat < S32.size a)
theorem k0_idx48_inb : ∀ (v426 : IVec S16 32) (k0_hw48 : k0_chk48 v426), ∀ a x, ((![v426] : Fin 1 → IVec S16 32) a x).toNat < S32.size a := fun v426 k0_hw48 => k0_hw48
def k0_off17 (k0_t8 : Fin k0_t8_loop.trips) : Fin 1 → Nat :=
  let c0_i32_41 : BitVec 32 := 0#32
  let c1_i32_43 : BitVec 32 := 1#32
  let arg14 : BitVec 32 := Scf.iv c0_i32_41 c1_i32_43 k0_t8
  let c16_i32_196 : BitVec 32 := 16#32
  let v431 : BitVec 32 := Scalar.muli arg14 c16_i32_196
  let v432 : Index := Scalar.indexCast v431
  ![v432.toNat]
@[reducible] def k0_t9_loop : Scf.Loop 32 :=
  let c0_i32_47 : BitVec 32 := 0#32
  let c1024_i32_48 : BitVec 32 := 1024#32
  let v105 : BitVec 32 := Scalar.addi c0_i32_47 c1024_i32_48
  let c1_i32_49 : BitVec 32 := 1#32
  ⟨c0_i32_47, v105, c1_i32_49⟩
def k0_off18 (k0_t9 : Fin k0_t9_loop.trips) : Fin 1 → Nat :=
  let c0_i32_47 : BitVec 32 := 0#32
  let c1_i32_49 : BitVec 32 := 1#32
  let arg14 : BitVec 32 := Scf.iv c0_i32_47 c1_i32_49 k0_t9
  let c16_i32 : BitVec 32 := 16#32
  let v387 : BitVec 32 := Scalar.muli arg14 c16_i32
  let v388 : Index := Scalar.indexCast v387
  ![v388.toNat]

def k0_chk49 (v393 : IVec S16 32) : Prop :=
  (∀ a x, ((![v393] : Fin 1 → IVec S16 32) a x).toNat < S32.size a)
theorem k0_idx49_inb : ∀ (v393 : IVec S16 32) (k0_hw49 : k0_chk49 v393), ∀ a x, ((![v393] : Fin 1 → IVec S16 32) a x).toNat < S32.size a := fun v393 k0_hw49 => k0_hw49

def k0_chk50 (v400 : IVec S16 32) : Prop :=
  (∀ a x, ((![v400] : Fin 1 → IVec S16 32) a x).toNat < S32.size a)
theorem k0_idx50_inb : ∀ (v400 : IVec S16 32) (k0_hw50 : k0_chk50 v400), ∀ a x, ((![v400] : Fin 1 → IVec S16 32) a x).toNat < S32.size a := fun v400 k0_hw50 => k0_hw50

def k0_chk51 (v407 : IVec S16 32) : Prop :=
  (∀ a x, ((![v407] : Fin 1 → IVec S16 32) a x).toNat < S32.size a)
theorem k0_idx51_inb : ∀ (v407 : IVec S16 32) (k0_hw51 : k0_chk51 v407), ∀ a x, ((![v407] : Fin 1 → IVec S16 32) a x).toNat < S32.size a := fun v407 k0_hw51 => k0_hw51

def k0_chk52 (v414 : IVec S16 32) : Prop :=
  (∀ a x, ((![v414] : Fin 1 → IVec S16 32) a x).toNat < S32.size a)
theorem k0_idx52_inb : ∀ (v414 : IVec S16 32) (k0_hw52 : k0_chk52 v414), ∀ a x, ((![v414] : Fin 1 → IVec S16 32) a x).toNat < S32.size a := fun v414 k0_hw52 => k0_hw52

def k0_chk53 (v421 : IVec S16 32) : Prop :=
  (∀ a x, ((![v421] : Fin 1 → IVec S16 32) a x).toNat < S32.size a)
theorem k0_idx53_inb : ∀ (v421 : IVec S16 32) (k0_hw53 : k0_chk53 v421), ∀ a x, ((![v421] : Fin 1 → IVec S16 32) a x).toNat < S32.size a := fun v421 k0_hw53 => k0_hw53

def k0_chk54 (v426 : IVec S16 32) : Prop :=
  (∀ a x, ((![v426] : Fin 1 → IVec S16 32) a x).toNat < S32.size a)
theorem k0_idx54_inb : ∀ (v426 : IVec S16 32) (k0_hw54 : k0_chk54 v426), ∀ a x, ((![v426] : Fin 1 → IVec S16 32) a x).toNat < S32.size a := fun v426 k0_hw54 => k0_hw54
def k0_off19 (k0_t9 : Fin k0_t9_loop.trips) : Fin 1 → Nat :=
  let c0_i32_47 : BitVec 32 := 0#32
  let c1_i32_49 : BitVec 32 := 1#32
  let arg14 : BitVec 32 := Scf.iv c0_i32_47 c1_i32_49 k0_t9
  let c16_i32_196 : BitVec 32 := 16#32
  let v431 : BitVec 32 := Scalar.muli arg14 c16_i32_196
  let v432 : Index := Scalar.indexCast v431
  ![v432.toNat]
@[reducible] def k0_t10_loop : Scf.Loop 32 :=
  let c0_i32_53 : BitVec 32 := 0#32
  let c1024_i32_54 : BitVec 32 := 1024#32
  let v117 : BitVec 32 := Scalar.addi c0_i32_53 c1024_i32_54
  let c1_i32_55 : BitVec 32 := 1#32
  ⟨c0_i32_53, v117, c1_i32_55⟩
def k0_off20 (k0_t10 : Fin k0_t10_loop.trips) : Fin 1 → Nat :=
  let c0_i32_53 : BitVec 32 := 0#32
  let c1_i32_55 : BitVec 32 := 1#32
  let arg14 : BitVec 32 := Scf.iv c0_i32_53 c1_i32_55 k0_t10
  let c16_i32 : BitVec 32 := 16#32
  let v387 : BitVec 32 := Scalar.muli arg14 c16_i32
  let v388 : Index := Scalar.indexCast v387
  ![v388.toNat]

def k0_chk55 (v393 : IVec S16 32) : Prop :=
  (∀ a x, ((![v393] : Fin 1 → IVec S16 32) a x).toNat < S32.size a)
theorem k0_idx55_inb : ∀ (v393 : IVec S16 32) (k0_hw55 : k0_chk55 v393), ∀ a x, ((![v393] : Fin 1 → IVec S16 32) a x).toNat < S32.size a := fun v393 k0_hw55 => k0_hw55

def k0_chk56 (v400 : IVec S16 32) : Prop :=
  (∀ a x, ((![v400] : Fin 1 → IVec S16 32) a x).toNat < S32.size a)
theorem k0_idx56_inb : ∀ (v400 : IVec S16 32) (k0_hw56 : k0_chk56 v400), ∀ a x, ((![v400] : Fin 1 → IVec S16 32) a x).toNat < S32.size a := fun v400 k0_hw56 => k0_hw56

def k0_chk57 (v407 : IVec S16 32) : Prop :=
  (∀ a x, ((![v407] : Fin 1 → IVec S16 32) a x).toNat < S32.size a)
theorem k0_idx57_inb : ∀ (v407 : IVec S16 32) (k0_hw57 : k0_chk57 v407), ∀ a x, ((![v407] : Fin 1 → IVec S16 32) a x).toNat < S32.size a := fun v407 k0_hw57 => k0_hw57

def k0_chk58 (v414 : IVec S16 32) : Prop :=
  (∀ a x, ((![v414] : Fin 1 → IVec S16 32) a x).toNat < S32.size a)
theorem k0_idx58_inb : ∀ (v414 : IVec S16 32) (k0_hw58 : k0_chk58 v414), ∀ a x, ((![v414] : Fin 1 → IVec S16 32) a x).toNat < S32.size a := fun v414 k0_hw58 => k0_hw58

def k0_chk59 (v421 : IVec S16 32) : Prop :=
  (∀ a x, ((![v421] : Fin 1 → IVec S16 32) a x).toNat < S32.size a)
theorem k0_idx59_inb : ∀ (v421 : IVec S16 32) (k0_hw59 : k0_chk59 v421), ∀ a x, ((![v421] : Fin 1 → IVec S16 32) a x).toNat < S32.size a := fun v421 k0_hw59 => k0_hw59

def k0_chk60 (v426 : IVec S16 32) : Prop :=
  (∀ a x, ((![v426] : Fin 1 → IVec S16 32) a x).toNat < S32.size a)
theorem k0_idx60_inb : ∀ (v426 : IVec S16 32) (k0_hw60 : k0_chk60 v426), ∀ a x, ((![v426] : Fin 1 → IVec S16 32) a x).toNat < S32.size a := fun v426 k0_hw60 => k0_hw60
def k0_off21 (k0_t10 : Fin k0_t10_loop.trips) : Fin 1 → Nat :=
  let c0_i32_53 : BitVec 32 := 0#32
  let c1_i32_55 : BitVec 32 := 1#32
  let arg14 : BitVec 32 := Scf.iv c0_i32_53 c1_i32_55 k0_t10
  let c16_i32_196 : BitVec 32 := 16#32
  let v431 : BitVec 32 := Scalar.muli arg14 c16_i32_196
  let v432 : Index := Scalar.indexCast v431
  ![v432.toNat]
@[reducible] def k0_t11_loop : Scf.Loop 32 :=
  let c0_i32_59 : BitVec 32 := 0#32
  let c1024_i32_60 : BitVec 32 := 1024#32
  let v129 : BitVec 32 := Scalar.addi c0_i32_59 c1024_i32_60
  let c1_i32_61 : BitVec 32 := 1#32
  ⟨c0_i32_59, v129, c1_i32_61⟩
def k0_off22 (k0_t11 : Fin k0_t11_loop.trips) : Fin 1 → Nat :=
  let c0_i32_59 : BitVec 32 := 0#32
  let c1_i32_61 : BitVec 32 := 1#32
  let arg14 : BitVec 32 := Scf.iv c0_i32_59 c1_i32_61 k0_t11
  let c16_i32 : BitVec 32 := 16#32
  let v387 : BitVec 32 := Scalar.muli arg14 c16_i32
  let v388 : Index := Scalar.indexCast v387
  ![v388.toNat]

def k0_chk61 (v393 : IVec S16 32) : Prop :=
  (∀ a x, ((![v393] : Fin 1 → IVec S16 32) a x).toNat < S32.size a)
theorem k0_idx61_inb : ∀ (v393 : IVec S16 32) (k0_hw61 : k0_chk61 v393), ∀ a x, ((![v393] : Fin 1 → IVec S16 32) a x).toNat < S32.size a := fun v393 k0_hw61 => k0_hw61

def k0_chk62 (v400 : IVec S16 32) : Prop :=
  (∀ a x, ((![v400] : Fin 1 → IVec S16 32) a x).toNat < S32.size a)
theorem k0_idx62_inb : ∀ (v400 : IVec S16 32) (k0_hw62 : k0_chk62 v400), ∀ a x, ((![v400] : Fin 1 → IVec S16 32) a x).toNat < S32.size a := fun v400 k0_hw62 => k0_hw62

def k0_chk63 (v407 : IVec S16 32) : Prop :=
  (∀ a x, ((![v407] : Fin 1 → IVec S16 32) a x).toNat < S32.size a)
theorem k0_idx63_inb : ∀ (v407 : IVec S16 32) (k0_hw63 : k0_chk63 v407), ∀ a x, ((![v407] : Fin 1 → IVec S16 32) a x).toNat < S32.size a := fun v407 k0_hw63 => k0_hw63

def k0_chk64 (v414 : IVec S16 32) : Prop :=
  (∀ a x, ((![v414] : Fin 1 → IVec S16 32) a x).toNat < S32.size a)
theorem k0_idx64_inb : ∀ (v414 : IVec S16 32) (k0_hw64 : k0_chk64 v414), ∀ a x, ((![v414] : Fin 1 → IVec S16 32) a x).toNat < S32.size a := fun v414 k0_hw64 => k0_hw64

def k0_chk65 (v421 : IVec S16 32) : Prop :=
  (∀ a x, ((![v421] : Fin 1 → IVec S16 32) a x).toNat < S32.size a)
theorem k0_idx65_inb : ∀ (v421 : IVec S16 32) (k0_hw65 : k0_chk65 v421), ∀ a x, ((![v421] : Fin 1 → IVec S16 32) a x).toNat < S32.size a := fun v421 k0_hw65 => k0_hw65

def k0_chk66 (v426 : IVec S16 32) : Prop :=
  (∀ a x, ((![v426] : Fin 1 → IVec S16 32) a x).toNat < S32.size a)
theorem k0_idx66_inb : ∀ (v426 : IVec S16 32) (k0_hw66 : k0_chk66 v426), ∀ a x, ((![v426] : Fin 1 → IVec S16 32) a x).toNat < S32.size a := fun v426 k0_hw66 => k0_hw66
def k0_off23 (k0_t11 : Fin k0_t11_loop.trips) : Fin 1 → Nat :=
  let c0_i32_59 : BitVec 32 := 0#32
  let c1_i32_61 : BitVec 32 := 1#32
  let arg14 : BitVec 32 := Scf.iv c0_i32_59 c1_i32_61 k0_t11
  let c16_i32_196 : BitVec 32 := 16#32
  let v431 : BitVec 32 := Scalar.muli arg14 c16_i32_196
  let v432 : Index := Scalar.indexCast v431
  ![v432.toNat]
@[reducible] def k0_t12_loop : Scf.Loop 32 :=
  let c0_i32_65 : BitVec 32 := 0#32
  let c1024_i32_66 : BitVec 32 := 1024#32
  let v141 : BitVec 32 := Scalar.addi c0_i32_65 c1024_i32_66
  let c1_i32_67 : BitVec 32 := 1#32
  ⟨c0_i32_65, v141, c1_i32_67⟩
def k0_off24 (k0_t12 : Fin k0_t12_loop.trips) : Fin 1 → Nat :=
  let c0_i32_65 : BitVec 32 := 0#32
  let c1_i32_67 : BitVec 32 := 1#32
  let arg14 : BitVec 32 := Scf.iv c0_i32_65 c1_i32_67 k0_t12
  let c16_i32 : BitVec 32 := 16#32
  let v387 : BitVec 32 := Scalar.muli arg14 c16_i32
  let v388 : Index := Scalar.indexCast v387
  ![v388.toNat]

def k0_chk67 (v393 : IVec S16 32) : Prop :=
  (∀ a x, ((![v393] : Fin 1 → IVec S16 32) a x).toNat < S32.size a)
theorem k0_idx67_inb : ∀ (v393 : IVec S16 32) (k0_hw67 : k0_chk67 v393), ∀ a x, ((![v393] : Fin 1 → IVec S16 32) a x).toNat < S32.size a := fun v393 k0_hw67 => k0_hw67

def k0_chk68 (v400 : IVec S16 32) : Prop :=
  (∀ a x, ((![v400] : Fin 1 → IVec S16 32) a x).toNat < S32.size a)
theorem k0_idx68_inb : ∀ (v400 : IVec S16 32) (k0_hw68 : k0_chk68 v400), ∀ a x, ((![v400] : Fin 1 → IVec S16 32) a x).toNat < S32.size a := fun v400 k0_hw68 => k0_hw68

def k0_chk69 (v407 : IVec S16 32) : Prop :=
  (∀ a x, ((![v407] : Fin 1 → IVec S16 32) a x).toNat < S32.size a)
theorem k0_idx69_inb : ∀ (v407 : IVec S16 32) (k0_hw69 : k0_chk69 v407), ∀ a x, ((![v407] : Fin 1 → IVec S16 32) a x).toNat < S32.size a := fun v407 k0_hw69 => k0_hw69

def k0_chk70 (v414 : IVec S16 32) : Prop :=
  (∀ a x, ((![v414] : Fin 1 → IVec S16 32) a x).toNat < S32.size a)
theorem k0_idx70_inb : ∀ (v414 : IVec S16 32) (k0_hw70 : k0_chk70 v414), ∀ a x, ((![v414] : Fin 1 → IVec S16 32) a x).toNat < S32.size a := fun v414 k0_hw70 => k0_hw70

def k0_chk71 (v421 : IVec S16 32) : Prop :=
  (∀ a x, ((![v421] : Fin 1 → IVec S16 32) a x).toNat < S32.size a)
theorem k0_idx71_inb : ∀ (v421 : IVec S16 32) (k0_hw71 : k0_chk71 v421), ∀ a x, ((![v421] : Fin 1 → IVec S16 32) a x).toNat < S32.size a := fun v421 k0_hw71 => k0_hw71

def k0_chk72 (v426 : IVec S16 32) : Prop :=
  (∀ a x, ((![v426] : Fin 1 → IVec S16 32) a x).toNat < S32.size a)
theorem k0_idx72_inb : ∀ (v426 : IVec S16 32) (k0_hw72 : k0_chk72 v426), ∀ a x, ((![v426] : Fin 1 → IVec S16 32) a x).toNat < S32.size a := fun v426 k0_hw72 => k0_hw72
def k0_off25 (k0_t12 : Fin k0_t12_loop.trips) : Fin 1 → Nat :=
  let c0_i32_65 : BitVec 32 := 0#32
  let c1_i32_67 : BitVec 32 := 1#32
  let arg14 : BitVec 32 := Scf.iv c0_i32_65 c1_i32_67 k0_t12
  let c16_i32_196 : BitVec 32 := 16#32
  let v431 : BitVec 32 := Scalar.muli arg14 c16_i32_196
  let v432 : Index := Scalar.indexCast v431
  ![v432.toNat]
@[reducible] def k0_t13_loop : Scf.Loop 32 :=
  let c0_i32_71 : BitVec 32 := 0#32
  let c1024_i32_72 : BitVec 32 := 1024#32
  let v153 : BitVec 32 := Scalar.addi c0_i32_71 c1024_i32_72
  let c1_i32_73 : BitVec 32 := 1#32
  ⟨c0_i32_71, v153, c1_i32_73⟩
def k0_off26 (k0_t13 : Fin k0_t13_loop.trips) : Fin 1 → Nat :=
  let c0_i32_71 : BitVec 32 := 0#32
  let c1_i32_73 : BitVec 32 := 1#32
  let arg14 : BitVec 32 := Scf.iv c0_i32_71 c1_i32_73 k0_t13
  let c16_i32 : BitVec 32 := 16#32
  let v387 : BitVec 32 := Scalar.muli arg14 c16_i32
  let v388 : Index := Scalar.indexCast v387
  ![v388.toNat]

def k0_chk73 (v393 : IVec S16 32) : Prop :=
  (∀ a x, ((![v393] : Fin 1 → IVec S16 32) a x).toNat < S32.size a)
theorem k0_idx73_inb : ∀ (v393 : IVec S16 32) (k0_hw73 : k0_chk73 v393), ∀ a x, ((![v393] : Fin 1 → IVec S16 32) a x).toNat < S32.size a := fun v393 k0_hw73 => k0_hw73

def k0_chk74 (v400 : IVec S16 32) : Prop :=
  (∀ a x, ((![v400] : Fin 1 → IVec S16 32) a x).toNat < S32.size a)
theorem k0_idx74_inb : ∀ (v400 : IVec S16 32) (k0_hw74 : k0_chk74 v400), ∀ a x, ((![v400] : Fin 1 → IVec S16 32) a x).toNat < S32.size a := fun v400 k0_hw74 => k0_hw74

def k0_chk75 (v407 : IVec S16 32) : Prop :=
  (∀ a x, ((![v407] : Fin 1 → IVec S16 32) a x).toNat < S32.size a)
theorem k0_idx75_inb : ∀ (v407 : IVec S16 32) (k0_hw75 : k0_chk75 v407), ∀ a x, ((![v407] : Fin 1 → IVec S16 32) a x).toNat < S32.size a := fun v407 k0_hw75 => k0_hw75

def k0_chk76 (v414 : IVec S16 32) : Prop :=
  (∀ a x, ((![v414] : Fin 1 → IVec S16 32) a x).toNat < S32.size a)
theorem k0_idx76_inb : ∀ (v414 : IVec S16 32) (k0_hw76 : k0_chk76 v414), ∀ a x, ((![v414] : Fin 1 → IVec S16 32) a x).toNat < S32.size a := fun v414 k0_hw76 => k0_hw76

def k0_chk77 (v421 : IVec S16 32) : Prop :=
  (∀ a x, ((![v421] : Fin 1 → IVec S16 32) a x).toNat < S32.size a)
theorem k0_idx77_inb : ∀ (v421 : IVec S16 32) (k0_hw77 : k0_chk77 v421), ∀ a x, ((![v421] : Fin 1 → IVec S16 32) a x).toNat < S32.size a := fun v421 k0_hw77 => k0_hw77

def k0_chk78 (v426 : IVec S16 32) : Prop :=
  (∀ a x, ((![v426] : Fin 1 → IVec S16 32) a x).toNat < S32.size a)
theorem k0_idx78_inb : ∀ (v426 : IVec S16 32) (k0_hw78 : k0_chk78 v426), ∀ a x, ((![v426] : Fin 1 → IVec S16 32) a x).toNat < S32.size a := fun v426 k0_hw78 => k0_hw78
def k0_off27 (k0_t13 : Fin k0_t13_loop.trips) : Fin 1 → Nat :=
  let c0_i32_71 : BitVec 32 := 0#32
  let c1_i32_73 : BitVec 32 := 1#32
  let arg14 : BitVec 32 := Scf.iv c0_i32_71 c1_i32_73 k0_t13
  let c16_i32_196 : BitVec 32 := 16#32
  let v431 : BitVec 32 := Scalar.muli arg14 c16_i32_196
  let v432 : Index := Scalar.indexCast v431
  ![v432.toNat]
@[reducible] def k0_t14_loop : Scf.Loop 32 :=
  let c0_i32_77 : BitVec 32 := 0#32
  let c1024_i32_78 : BitVec 32 := 1024#32
  let v165 : BitVec 32 := Scalar.addi c0_i32_77 c1024_i32_78
  let c1_i32_79 : BitVec 32 := 1#32
  ⟨c0_i32_77, v165, c1_i32_79⟩
def k0_off28 (k0_t14 : Fin k0_t14_loop.trips) : Fin 1 → Nat :=
  let c0_i32_77 : BitVec 32 := 0#32
  let c1_i32_79 : BitVec 32 := 1#32
  let arg14 : BitVec 32 := Scf.iv c0_i32_77 c1_i32_79 k0_t14
  let c16_i32 : BitVec 32 := 16#32
  let v387 : BitVec 32 := Scalar.muli arg14 c16_i32
  let v388 : Index := Scalar.indexCast v387
  ![v388.toNat]

def k0_chk79 (v393 : IVec S16 32) : Prop :=
  (∀ a x, ((![v393] : Fin 1 → IVec S16 32) a x).toNat < S32.size a)
theorem k0_idx79_inb : ∀ (v393 : IVec S16 32) (k0_hw79 : k0_chk79 v393), ∀ a x, ((![v393] : Fin 1 → IVec S16 32) a x).toNat < S32.size a := fun v393 k0_hw79 => k0_hw79

def k0_chk80 (v400 : IVec S16 32) : Prop :=
  (∀ a x, ((![v400] : Fin 1 → IVec S16 32) a x).toNat < S32.size a)
theorem k0_idx80_inb : ∀ (v400 : IVec S16 32) (k0_hw80 : k0_chk80 v400), ∀ a x, ((![v400] : Fin 1 → IVec S16 32) a x).toNat < S32.size a := fun v400 k0_hw80 => k0_hw80

def k0_chk81 (v407 : IVec S16 32) : Prop :=
  (∀ a x, ((![v407] : Fin 1 → IVec S16 32) a x).toNat < S32.size a)
theorem k0_idx81_inb : ∀ (v407 : IVec S16 32) (k0_hw81 : k0_chk81 v407), ∀ a x, ((![v407] : Fin 1 → IVec S16 32) a x).toNat < S32.size a := fun v407 k0_hw81 => k0_hw81

def k0_chk82 (v414 : IVec S16 32) : Prop :=
  (∀ a x, ((![v414] : Fin 1 → IVec S16 32) a x).toNat < S32.size a)
theorem k0_idx82_inb : ∀ (v414 : IVec S16 32) (k0_hw82 : k0_chk82 v414), ∀ a x, ((![v414] : Fin 1 → IVec S16 32) a x).toNat < S32.size a := fun v414 k0_hw82 => k0_hw82

def k0_chk83 (v421 : IVec S16 32) : Prop :=
  (∀ a x, ((![v421] : Fin 1 → IVec S16 32) a x).toNat < S32.size a)
theorem k0_idx83_inb : ∀ (v421 : IVec S16 32) (k0_hw83 : k0_chk83 v421), ∀ a x, ((![v421] : Fin 1 → IVec S16 32) a x).toNat < S32.size a := fun v421 k0_hw83 => k0_hw83

def k0_chk84 (v426 : IVec S16 32) : Prop :=
  (∀ a x, ((![v426] : Fin 1 → IVec S16 32) a x).toNat < S32.size a)
theorem k0_idx84_inb : ∀ (v426 : IVec S16 32) (k0_hw84 : k0_chk84 v426), ∀ a x, ((![v426] : Fin 1 → IVec S16 32) a x).toNat < S32.size a := fun v426 k0_hw84 => k0_hw84
def k0_off29 (k0_t14 : Fin k0_t14_loop.trips) : Fin 1 → Nat :=
  let c0_i32_77 : BitVec 32 := 0#32
  let c1_i32_79 : BitVec 32 := 1#32
  let arg14 : BitVec 32 := Scf.iv c0_i32_77 c1_i32_79 k0_t14
  let c16_i32_196 : BitVec 32 := 16#32
  let v431 : BitVec 32 := Scalar.muli arg14 c16_i32_196
  let v432 : Index := Scalar.indexCast v431
  ![v432.toNat]
@[reducible] def k0_t15_loop : Scf.Loop 32 :=
  let c0_i32_83 : BitVec 32 := 0#32
  let c1024_i32_84 : BitVec 32 := 1024#32
  let v177 : BitVec 32 := Scalar.addi c0_i32_83 c1024_i32_84
  let c1_i32_85 : BitVec 32 := 1#32
  ⟨c0_i32_83, v177, c1_i32_85⟩
def k0_off30 (k0_t15 : Fin k0_t15_loop.trips) : Fin 1 → Nat :=
  let c0_i32_83 : BitVec 32 := 0#32
  let c1_i32_85 : BitVec 32 := 1#32
  let arg14 : BitVec 32 := Scf.iv c0_i32_83 c1_i32_85 k0_t15
  let c16_i32 : BitVec 32 := 16#32
  let v387 : BitVec 32 := Scalar.muli arg14 c16_i32
  let v388 : Index := Scalar.indexCast v387
  ![v388.toNat]

def k0_chk85 (v393 : IVec S16 32) : Prop :=
  (∀ a x, ((![v393] : Fin 1 → IVec S16 32) a x).toNat < S32.size a)
theorem k0_idx85_inb : ∀ (v393 : IVec S16 32) (k0_hw85 : k0_chk85 v393), ∀ a x, ((![v393] : Fin 1 → IVec S16 32) a x).toNat < S32.size a := fun v393 k0_hw85 => k0_hw85

def k0_chk86 (v400 : IVec S16 32) : Prop :=
  (∀ a x, ((![v400] : Fin 1 → IVec S16 32) a x).toNat < S32.size a)
theorem k0_idx86_inb : ∀ (v400 : IVec S16 32) (k0_hw86 : k0_chk86 v400), ∀ a x, ((![v400] : Fin 1 → IVec S16 32) a x).toNat < S32.size a := fun v400 k0_hw86 => k0_hw86

def k0_chk87 (v407 : IVec S16 32) : Prop :=
  (∀ a x, ((![v407] : Fin 1 → IVec S16 32) a x).toNat < S32.size a)
theorem k0_idx87_inb : ∀ (v407 : IVec S16 32) (k0_hw87 : k0_chk87 v407), ∀ a x, ((![v407] : Fin 1 → IVec S16 32) a x).toNat < S32.size a := fun v407 k0_hw87 => k0_hw87

def k0_chk88 (v414 : IVec S16 32) : Prop :=
  (∀ a x, ((![v414] : Fin 1 → IVec S16 32) a x).toNat < S32.size a)
theorem k0_idx88_inb : ∀ (v414 : IVec S16 32) (k0_hw88 : k0_chk88 v414), ∀ a x, ((![v414] : Fin 1 → IVec S16 32) a x).toNat < S32.size a := fun v414 k0_hw88 => k0_hw88

def k0_chk89 (v421 : IVec S16 32) : Prop :=
  (∀ a x, ((![v421] : Fin 1 → IVec S16 32) a x).toNat < S32.size a)
theorem k0_idx89_inb : ∀ (v421 : IVec S16 32) (k0_hw89 : k0_chk89 v421), ∀ a x, ((![v421] : Fin 1 → IVec S16 32) a x).toNat < S32.size a := fun v421 k0_hw89 => k0_hw89

def k0_chk90 (v426 : IVec S16 32) : Prop :=
  (∀ a x, ((![v426] : Fin 1 → IVec S16 32) a x).toNat < S32.size a)
theorem k0_idx90_inb : ∀ (v426 : IVec S16 32) (k0_hw90 : k0_chk90 v426), ∀ a x, ((![v426] : Fin 1 → IVec S16 32) a x).toNat < S32.size a := fun v426 k0_hw90 => k0_hw90
def k0_off31 (k0_t15 : Fin k0_t15_loop.trips) : Fin 1 → Nat :=
  let c0_i32_83 : BitVec 32 := 0#32
  let c1_i32_85 : BitVec 32 := 1#32
  let arg14 : BitVec 32 := Scf.iv c0_i32_83 c1_i32_85 k0_t15
  let c16_i32_196 : BitVec 32 := 16#32
  let v431 : BitVec 32 := Scalar.muli arg14 c16_i32_196
  let v432 : Index := Scalar.indexCast v431
  ![v432.toNat]
@[reducible] def k0_t16_loop : Scf.Loop 32 :=
  let c0_i32_89 : BitVec 32 := 0#32
  let c1024_i32_90 : BitVec 32 := 1024#32
  let v189 : BitVec 32 := Scalar.addi c0_i32_89 c1024_i32_90
  let c1_i32_91 : BitVec 32 := 1#32
  ⟨c0_i32_89, v189, c1_i32_91⟩
def k0_off32 (k0_t16 : Fin k0_t16_loop.trips) : Fin 1 → Nat :=
  let c0_i32_89 : BitVec 32 := 0#32
  let c1_i32_91 : BitVec 32 := 1#32
  let arg14 : BitVec 32 := Scf.iv c0_i32_89 c1_i32_91 k0_t16
  let c16_i32 : BitVec 32 := 16#32
  let v387 : BitVec 32 := Scalar.muli arg14 c16_i32
  let v388 : Index := Scalar.indexCast v387
  ![v388.toNat]

def k0_chk91 (v393 : IVec S16 32) : Prop :=
  (∀ a x, ((![v393] : Fin 1 → IVec S16 32) a x).toNat < S32.size a)
theorem k0_idx91_inb : ∀ (v393 : IVec S16 32) (k0_hw91 : k0_chk91 v393), ∀ a x, ((![v393] : Fin 1 → IVec S16 32) a x).toNat < S32.size a := fun v393 k0_hw91 => k0_hw91

def k0_chk92 (v400 : IVec S16 32) : Prop :=
  (∀ a x, ((![v400] : Fin 1 → IVec S16 32) a x).toNat < S32.size a)
theorem k0_idx92_inb : ∀ (v400 : IVec S16 32) (k0_hw92 : k0_chk92 v400), ∀ a x, ((![v400] : Fin 1 → IVec S16 32) a x).toNat < S32.size a := fun v400 k0_hw92 => k0_hw92

def k0_chk93 (v407 : IVec S16 32) : Prop :=
  (∀ a x, ((![v407] : Fin 1 → IVec S16 32) a x).toNat < S32.size a)
theorem k0_idx93_inb : ∀ (v407 : IVec S16 32) (k0_hw93 : k0_chk93 v407), ∀ a x, ((![v407] : Fin 1 → IVec S16 32) a x).toNat < S32.size a := fun v407 k0_hw93 => k0_hw93

def k0_chk94 (v414 : IVec S16 32) : Prop :=
  (∀ a x, ((![v414] : Fin 1 → IVec S16 32) a x).toNat < S32.size a)
theorem k0_idx94_inb : ∀ (v414 : IVec S16 32) (k0_hw94 : k0_chk94 v414), ∀ a x, ((![v414] : Fin 1 → IVec S16 32) a x).toNat < S32.size a := fun v414 k0_hw94 => k0_hw94

def k0_chk95 (v421 : IVec S16 32) : Prop :=
  (∀ a x, ((![v421] : Fin 1 → IVec S16 32) a x).toNat < S32.size a)
theorem k0_idx95_inb : ∀ (v421 : IVec S16 32) (k0_hw95 : k0_chk95 v421), ∀ a x, ((![v421] : Fin 1 → IVec S16 32) a x).toNat < S32.size a := fun v421 k0_hw95 => k0_hw95

def k0_chk96 (v426 : IVec S16 32) : Prop :=
  (∀ a x, ((![v426] : Fin 1 → IVec S16 32) a x).toNat < S32.size a)
theorem k0_idx96_inb : ∀ (v426 : IVec S16 32) (k0_hw96 : k0_chk96 v426), ∀ a x, ((![v426] : Fin 1 → IVec S16 32) a x).toNat < S32.size a := fun v426 k0_hw96 => k0_hw96
def k0_off33 (k0_t16 : Fin k0_t16_loop.trips) : Fin 1 → Nat :=
  let c0_i32_89 : BitVec 32 := 0#32
  let c1_i32_91 : BitVec 32 := 1#32
  let arg14 : BitVec 32 := Scf.iv c0_i32_89 c1_i32_91 k0_t16
  let c16_i32_196 : BitVec 32 := 16#32
  let v431 : BitVec 32 := Scalar.muli arg14 c16_i32_196
  let v432 : Index := Scalar.indexCast v431
  ![v432.toNat]
@[reducible] def k0_t17_loop : Scf.Loop 32 :=
  let c0_i32_95 : BitVec 32 := 0#32
  let c1024_i32_96 : BitVec 32 := 1024#32
  let v201 : BitVec 32 := Scalar.addi c0_i32_95 c1024_i32_96
  let c1_i32_97 : BitVec 32 := 1#32
  ⟨c0_i32_95, v201, c1_i32_97⟩
def k0_off34 (k0_t17 : Fin k0_t17_loop.trips) : Fin 1 → Nat :=
  let c0_i32_95 : BitVec 32 := 0#32
  let c1_i32_97 : BitVec 32 := 1#32
  let arg14 : BitVec 32 := Scf.iv c0_i32_95 c1_i32_97 k0_t17
  let c16_i32 : BitVec 32 := 16#32
  let v387 : BitVec 32 := Scalar.muli arg14 c16_i32
  let v388 : Index := Scalar.indexCast v387
  ![v388.toNat]

def k0_chk97 (v393 : IVec S16 32) : Prop :=
  (∀ a x, ((![v393] : Fin 1 → IVec S16 32) a x).toNat < S32.size a)
theorem k0_idx97_inb : ∀ (v393 : IVec S16 32) (k0_hw97 : k0_chk97 v393), ∀ a x, ((![v393] : Fin 1 → IVec S16 32) a x).toNat < S32.size a := fun v393 k0_hw97 => k0_hw97

def k0_chk98 (v400 : IVec S16 32) : Prop :=
  (∀ a x, ((![v400] : Fin 1 → IVec S16 32) a x).toNat < S32.size a)
theorem k0_idx98_inb : ∀ (v400 : IVec S16 32) (k0_hw98 : k0_chk98 v400), ∀ a x, ((![v400] : Fin 1 → IVec S16 32) a x).toNat < S32.size a := fun v400 k0_hw98 => k0_hw98

def k0_chk99 (v407 : IVec S16 32) : Prop :=
  (∀ a x, ((![v407] : Fin 1 → IVec S16 32) a x).toNat < S32.size a)
theorem k0_idx99_inb : ∀ (v407 : IVec S16 32) (k0_hw99 : k0_chk99 v407), ∀ a x, ((![v407] : Fin 1 → IVec S16 32) a x).toNat < S32.size a := fun v407 k0_hw99 => k0_hw99

def k0_chk100 (v414 : IVec S16 32) : Prop :=
  (∀ a x, ((![v414] : Fin 1 → IVec S16 32) a x).toNat < S32.size a)
theorem k0_idx100_inb : ∀ (v414 : IVec S16 32) (k0_hw100 : k0_chk100 v414), ∀ a x, ((![v414] : Fin 1 → IVec S16 32) a x).toNat < S32.size a := fun v414 k0_hw100 => k0_hw100

def k0_chk101 (v421 : IVec S16 32) : Prop :=
  (∀ a x, ((![v421] : Fin 1 → IVec S16 32) a x).toNat < S32.size a)
theorem k0_idx101_inb : ∀ (v421 : IVec S16 32) (k0_hw101 : k0_chk101 v421), ∀ a x, ((![v421] : Fin 1 → IVec S16 32) a x).toNat < S32.size a := fun v421 k0_hw101 => k0_hw101

def k0_chk102 (v426 : IVec S16 32) : Prop :=
  (∀ a x, ((![v426] : Fin 1 → IVec S16 32) a x).toNat < S32.size a)
theorem k0_idx102_inb : ∀ (v426 : IVec S16 32) (k0_hw102 : k0_chk102 v426), ∀ a x, ((![v426] : Fin 1 → IVec S16 32) a x).toNat < S32.size a := fun v426 k0_hw102 => k0_hw102
def k0_off35 (k0_t17 : Fin k0_t17_loop.trips) : Fin 1 → Nat :=
  let c0_i32_95 : BitVec 32 := 0#32
  let c1_i32_97 : BitVec 32 := 1#32
  let arg14 : BitVec 32 := Scf.iv c0_i32_95 c1_i32_97 k0_t17
  let c16_i32_196 : BitVec 32 := 16#32
  let v431 : BitVec 32 := Scalar.muli arg14 c16_i32_196
  let v432 : Index := Scalar.indexCast v431
  ![v432.toNat]
@[reducible] def k0_t18_loop : Scf.Loop 32 :=
  let c0_i32_101 : BitVec 32 := 0#32
  let c1024_i32_102 : BitVec 32 := 1024#32
  let v213 : BitVec 32 := Scalar.addi c0_i32_101 c1024_i32_102
  let c1_i32_103 : BitVec 32 := 1#32
  ⟨c0_i32_101, v213, c1_i32_103⟩
def k0_off36 (k0_t18 : Fin k0_t18_loop.trips) : Fin 1 → Nat :=
  let c0_i32_101 : BitVec 32 := 0#32
  let c1_i32_103 : BitVec 32 := 1#32
  let arg14 : BitVec 32 := Scf.iv c0_i32_101 c1_i32_103 k0_t18
  let c16_i32 : BitVec 32 := 16#32
  let v387 : BitVec 32 := Scalar.muli arg14 c16_i32
  let v388 : Index := Scalar.indexCast v387
  ![v388.toNat]

def k0_chk103 (v393 : IVec S16 32) : Prop :=
  (∀ a x, ((![v393] : Fin 1 → IVec S16 32) a x).toNat < S32.size a)
theorem k0_idx103_inb : ∀ (v393 : IVec S16 32) (k0_hw103 : k0_chk103 v393), ∀ a x, ((![v393] : Fin 1 → IVec S16 32) a x).toNat < S32.size a := fun v393 k0_hw103 => k0_hw103

def k0_chk104 (v400 : IVec S16 32) : Prop :=
  (∀ a x, ((![v400] : Fin 1 → IVec S16 32) a x).toNat < S32.size a)
theorem k0_idx104_inb : ∀ (v400 : IVec S16 32) (k0_hw104 : k0_chk104 v400), ∀ a x, ((![v400] : Fin 1 → IVec S16 32) a x).toNat < S32.size a := fun v400 k0_hw104 => k0_hw104

def k0_chk105 (v407 : IVec S16 32) : Prop :=
  (∀ a x, ((![v407] : Fin 1 → IVec S16 32) a x).toNat < S32.size a)
theorem k0_idx105_inb : ∀ (v407 : IVec S16 32) (k0_hw105 : k0_chk105 v407), ∀ a x, ((![v407] : Fin 1 → IVec S16 32) a x).toNat < S32.size a := fun v407 k0_hw105 => k0_hw105

def k0_chk106 (v414 : IVec S16 32) : Prop :=
  (∀ a x, ((![v414] : Fin 1 → IVec S16 32) a x).toNat < S32.size a)
theorem k0_idx106_inb : ∀ (v414 : IVec S16 32) (k0_hw106 : k0_chk106 v414), ∀ a x, ((![v414] : Fin 1 → IVec S16 32) a x).toNat < S32.size a := fun v414 k0_hw106 => k0_hw106

def k0_chk107 (v421 : IVec S16 32) : Prop :=
  (∀ a x, ((![v421] : Fin 1 → IVec S16 32) a x).toNat < S32.size a)
theorem k0_idx107_inb : ∀ (v421 : IVec S16 32) (k0_hw107 : k0_chk107 v421), ∀ a x, ((![v421] : Fin 1 → IVec S16 32) a x).toNat < S32.size a := fun v421 k0_hw107 => k0_hw107

def k0_chk108 (v426 : IVec S16 32) : Prop :=
  (∀ a x, ((![v426] : Fin 1 → IVec S16 32) a x).toNat < S32.size a)
theorem k0_idx108_inb : ∀ (v426 : IVec S16 32) (k0_hw108 : k0_chk108 v426), ∀ a x, ((![v426] : Fin 1 → IVec S16 32) a x).toNat < S32.size a := fun v426 k0_hw108 => k0_hw108
def k0_off37 (k0_t18 : Fin k0_t18_loop.trips) : Fin 1 → Nat :=
  let c0_i32_101 : BitVec 32 := 0#32
  let c1_i32_103 : BitVec 32 := 1#32
  let arg14 : BitVec 32 := Scf.iv c0_i32_101 c1_i32_103 k0_t18
  let c16_i32_196 : BitVec 32 := 16#32
  let v431 : BitVec 32 := Scalar.muli arg14 c16_i32_196
  let v432 : Index := Scalar.indexCast v431
  ![v432.toNat]
@[reducible] def k0_t19_loop : Scf.Loop 32 :=
  let c0_i32_107 : BitVec 32 := 0#32
  let c1024_i32_108 : BitVec 32 := 1024#32
  let v225 : BitVec 32 := Scalar.addi c0_i32_107 c1024_i32_108
  let c1_i32_109 : BitVec 32 := 1#32
  ⟨c0_i32_107, v225, c1_i32_109⟩
def k0_off38 (k0_t19 : Fin k0_t19_loop.trips) : Fin 1 → Nat :=
  let c0_i32_107 : BitVec 32 := 0#32
  let c1_i32_109 : BitVec 32 := 1#32
  let arg14 : BitVec 32 := Scf.iv c0_i32_107 c1_i32_109 k0_t19
  let c16_i32 : BitVec 32 := 16#32
  let v387 : BitVec 32 := Scalar.muli arg14 c16_i32
  let v388 : Index := Scalar.indexCast v387
  ![v388.toNat]

def k0_chk109 (v393 : IVec S16 32) : Prop :=
  (∀ a x, ((![v393] : Fin 1 → IVec S16 32) a x).toNat < S32.size a)
theorem k0_idx109_inb : ∀ (v393 : IVec S16 32) (k0_hw109 : k0_chk109 v393), ∀ a x, ((![v393] : Fin 1 → IVec S16 32) a x).toNat < S32.size a := fun v393 k0_hw109 => k0_hw109

def k0_chk110 (v400 : IVec S16 32) : Prop :=
  (∀ a x, ((![v400] : Fin 1 → IVec S16 32) a x).toNat < S32.size a)
theorem k0_idx110_inb : ∀ (v400 : IVec S16 32) (k0_hw110 : k0_chk110 v400), ∀ a x, ((![v400] : Fin 1 → IVec S16 32) a x).toNat < S32.size a := fun v400 k0_hw110 => k0_hw110

def k0_chk111 (v407 : IVec S16 32) : Prop :=
  (∀ a x, ((![v407] : Fin 1 → IVec S16 32) a x).toNat < S32.size a)
theorem k0_idx111_inb : ∀ (v407 : IVec S16 32) (k0_hw111 : k0_chk111 v407), ∀ a x, ((![v407] : Fin 1 → IVec S16 32) a x).toNat < S32.size a := fun v407 k0_hw111 => k0_hw111

def k0_chk112 (v414 : IVec S16 32) : Prop :=
  (∀ a x, ((![v414] : Fin 1 → IVec S16 32) a x).toNat < S32.size a)
theorem k0_idx112_inb : ∀ (v414 : IVec S16 32) (k0_hw112 : k0_chk112 v414), ∀ a x, ((![v414] : Fin 1 → IVec S16 32) a x).toNat < S32.size a := fun v414 k0_hw112 => k0_hw112

def k0_chk113 (v421 : IVec S16 32) : Prop :=
  (∀ a x, ((![v421] : Fin 1 → IVec S16 32) a x).toNat < S32.size a)
theorem k0_idx113_inb : ∀ (v421 : IVec S16 32) (k0_hw113 : k0_chk113 v421), ∀ a x, ((![v421] : Fin 1 → IVec S16 32) a x).toNat < S32.size a := fun v421 k0_hw113 => k0_hw113

def k0_chk114 (v426 : IVec S16 32) : Prop :=
  (∀ a x, ((![v426] : Fin 1 → IVec S16 32) a x).toNat < S32.size a)
theorem k0_idx114_inb : ∀ (v426 : IVec S16 32) (k0_hw114 : k0_chk114 v426), ∀ a x, ((![v426] : Fin 1 → IVec S16 32) a x).toNat < S32.size a := fun v426 k0_hw114 => k0_hw114
def k0_off39 (k0_t19 : Fin k0_t19_loop.trips) : Fin 1 → Nat :=
  let c0_i32_107 : BitVec 32 := 0#32
  let c1_i32_109 : BitVec 32 := 1#32
  let arg14 : BitVec 32 := Scf.iv c0_i32_107 c1_i32_109 k0_t19
  let c16_i32_196 : BitVec 32 := 16#32
  let v431 : BitVec 32 := Scalar.muli arg14 c16_i32_196
  let v432 : Index := Scalar.indexCast v431
  ![v432.toNat]
@[reducible] def k0_t20_loop : Scf.Loop 32 :=
  let c0_i32_113 : BitVec 32 := 0#32
  let c1024_i32_114 : BitVec 32 := 1024#32
  let v237 : BitVec 32 := Scalar.addi c0_i32_113 c1024_i32_114
  let c1_i32_115 : BitVec 32 := 1#32
  ⟨c0_i32_113, v237, c1_i32_115⟩
def k0_off40 (k0_t20 : Fin k0_t20_loop.trips) : Fin 1 → Nat :=
  let c0_i32_113 : BitVec 32 := 0#32
  let c1_i32_115 : BitVec 32 := 1#32
  let arg14 : BitVec 32 := Scf.iv c0_i32_113 c1_i32_115 k0_t20
  let c16_i32 : BitVec 32 := 16#32
  let v387 : BitVec 32 := Scalar.muli arg14 c16_i32
  let v388 : Index := Scalar.indexCast v387
  ![v388.toNat]

def k0_chk115 (v393 : IVec S16 32) : Prop :=
  (∀ a x, ((![v393] : Fin 1 → IVec S16 32) a x).toNat < S32.size a)
theorem k0_idx115_inb : ∀ (v393 : IVec S16 32) (k0_hw115 : k0_chk115 v393), ∀ a x, ((![v393] : Fin 1 → IVec S16 32) a x).toNat < S32.size a := fun v393 k0_hw115 => k0_hw115

def k0_chk116 (v400 : IVec S16 32) : Prop :=
  (∀ a x, ((![v400] : Fin 1 → IVec S16 32) a x).toNat < S32.size a)
theorem k0_idx116_inb : ∀ (v400 : IVec S16 32) (k0_hw116 : k0_chk116 v400), ∀ a x, ((![v400] : Fin 1 → IVec S16 32) a x).toNat < S32.size a := fun v400 k0_hw116 => k0_hw116

def k0_chk117 (v407 : IVec S16 32) : Prop :=
  (∀ a x, ((![v407] : Fin 1 → IVec S16 32) a x).toNat < S32.size a)
theorem k0_idx117_inb : ∀ (v407 : IVec S16 32) (k0_hw117 : k0_chk117 v407), ∀ a x, ((![v407] : Fin 1 → IVec S16 32) a x).toNat < S32.size a := fun v407 k0_hw117 => k0_hw117

def k0_chk118 (v414 : IVec S16 32) : Prop :=
  (∀ a x, ((![v414] : Fin 1 → IVec S16 32) a x).toNat < S32.size a)
theorem k0_idx118_inb : ∀ (v414 : IVec S16 32) (k0_hw118 : k0_chk118 v414), ∀ a x, ((![v414] : Fin 1 → IVec S16 32) a x).toNat < S32.size a := fun v414 k0_hw118 => k0_hw118

def k0_chk119 (v421 : IVec S16 32) : Prop :=
  (∀ a x, ((![v421] : Fin 1 → IVec S16 32) a x).toNat < S32.size a)
theorem k0_idx119_inb : ∀ (v421 : IVec S16 32) (k0_hw119 : k0_chk119 v421), ∀ a x, ((![v421] : Fin 1 → IVec S16 32) a x).toNat < S32.size a := fun v421 k0_hw119 => k0_hw119

def k0_chk120 (v426 : IVec S16 32) : Prop :=
  (∀ a x, ((![v426] : Fin 1 → IVec S16 32) a x).toNat < S32.size a)
theorem k0_idx120_inb : ∀ (v426 : IVec S16 32) (k0_hw120 : k0_chk120 v426), ∀ a x, ((![v426] : Fin 1 → IVec S16 32) a x).toNat < S32.size a := fun v426 k0_hw120 => k0_hw120
def k0_off41 (k0_t20 : Fin k0_t20_loop.trips) : Fin 1 → Nat :=
  let c0_i32_113 : BitVec 32 := 0#32
  let c1_i32_115 : BitVec 32 := 1#32
  let arg14 : BitVec 32 := Scf.iv c0_i32_113 c1_i32_115 k0_t20
  let c16_i32_196 : BitVec 32 := 16#32
  let v431 : BitVec 32 := Scalar.muli arg14 c16_i32_196
  let v432 : Index := Scalar.indexCast v431
  ![v432.toNat]
@[reducible] def k0_t21_loop : Scf.Loop 32 :=
  let c0_i32_119 : BitVec 32 := 0#32
  let c1024_i32_120 : BitVec 32 := 1024#32
  let v249 : BitVec 32 := Scalar.addi c0_i32_119 c1024_i32_120
  let c1_i32_121 : BitVec 32 := 1#32
  ⟨c0_i32_119, v249, c1_i32_121⟩
def k0_off42 (k0_t21 : Fin k0_t21_loop.trips) : Fin 1 → Nat :=
  let c0_i32_119 : BitVec 32 := 0#32
  let c1_i32_121 : BitVec 32 := 1#32
  let arg14 : BitVec 32 := Scf.iv c0_i32_119 c1_i32_121 k0_t21
  let c16_i32 : BitVec 32 := 16#32
  let v387 : BitVec 32 := Scalar.muli arg14 c16_i32
  let v388 : Index := Scalar.indexCast v387
  ![v388.toNat]

def k0_chk121 (v393 : IVec S16 32) : Prop :=
  (∀ a x, ((![v393] : Fin 1 → IVec S16 32) a x).toNat < S32.size a)
theorem k0_idx121_inb : ∀ (v393 : IVec S16 32) (k0_hw121 : k0_chk121 v393), ∀ a x, ((![v393] : Fin 1 → IVec S16 32) a x).toNat < S32.size a := fun v393 k0_hw121 => k0_hw121

def k0_chk122 (v400 : IVec S16 32) : Prop :=
  (∀ a x, ((![v400] : Fin 1 → IVec S16 32) a x).toNat < S32.size a)
theorem k0_idx122_inb : ∀ (v400 : IVec S16 32) (k0_hw122 : k0_chk122 v400), ∀ a x, ((![v400] : Fin 1 → IVec S16 32) a x).toNat < S32.size a := fun v400 k0_hw122 => k0_hw122

def k0_chk123 (v407 : IVec S16 32) : Prop :=
  (∀ a x, ((![v407] : Fin 1 → IVec S16 32) a x).toNat < S32.size a)
theorem k0_idx123_inb : ∀ (v407 : IVec S16 32) (k0_hw123 : k0_chk123 v407), ∀ a x, ((![v407] : Fin 1 → IVec S16 32) a x).toNat < S32.size a := fun v407 k0_hw123 => k0_hw123

def k0_chk124 (v414 : IVec S16 32) : Prop :=
  (∀ a x, ((![v414] : Fin 1 → IVec S16 32) a x).toNat < S32.size a)
theorem k0_idx124_inb : ∀ (v414 : IVec S16 32) (k0_hw124 : k0_chk124 v414), ∀ a x, ((![v414] : Fin 1 → IVec S16 32) a x).toNat < S32.size a := fun v414 k0_hw124 => k0_hw124

def k0_chk125 (v421 : IVec S16 32) : Prop :=
  (∀ a x, ((![v421] : Fin 1 → IVec S16 32) a x).toNat < S32.size a)
theorem k0_idx125_inb : ∀ (v421 : IVec S16 32) (k0_hw125 : k0_chk125 v421), ∀ a x, ((![v421] : Fin 1 → IVec S16 32) a x).toNat < S32.size a := fun v421 k0_hw125 => k0_hw125

def k0_chk126 (v426 : IVec S16 32) : Prop :=
  (∀ a x, ((![v426] : Fin 1 → IVec S16 32) a x).toNat < S32.size a)
theorem k0_idx126_inb : ∀ (v426 : IVec S16 32) (k0_hw126 : k0_chk126 v426), ∀ a x, ((![v426] : Fin 1 → IVec S16 32) a x).toNat < S32.size a := fun v426 k0_hw126 => k0_hw126
def k0_off43 (k0_t21 : Fin k0_t21_loop.trips) : Fin 1 → Nat :=
  let c0_i32_119 : BitVec 32 := 0#32
  let c1_i32_121 : BitVec 32 := 1#32
  let arg14 : BitVec 32 := Scf.iv c0_i32_119 c1_i32_121 k0_t21
  let c16_i32_196 : BitVec 32 := 16#32
  let v431 : BitVec 32 := Scalar.muli arg14 c16_i32_196
  let v432 : Index := Scalar.indexCast v431
  ![v432.toNat]
@[reducible] def k0_t22_loop : Scf.Loop 32 :=
  let c0_i32_125 : BitVec 32 := 0#32
  let c1024_i32_126 : BitVec 32 := 1024#32
  let v261 : BitVec 32 := Scalar.addi c0_i32_125 c1024_i32_126
  let c1_i32_127 : BitVec 32 := 1#32
  ⟨c0_i32_125, v261, c1_i32_127⟩
def k0_off44 (k0_t22 : Fin k0_t22_loop.trips) : Fin 1 → Nat :=
  let c0_i32_125 : BitVec 32 := 0#32
  let c1_i32_127 : BitVec 32 := 1#32
  let arg14 : BitVec 32 := Scf.iv c0_i32_125 c1_i32_127 k0_t22
  let c16_i32 : BitVec 32 := 16#32
  let v387 : BitVec 32 := Scalar.muli arg14 c16_i32
  let v388 : Index := Scalar.indexCast v387
  ![v388.toNat]

def k0_chk127 (v393 : IVec S16 32) : Prop :=
  (∀ a x, ((![v393] : Fin 1 → IVec S16 32) a x).toNat < S32.size a)
theorem k0_idx127_inb : ∀ (v393 : IVec S16 32) (k0_hw127 : k0_chk127 v393), ∀ a x, ((![v393] : Fin 1 → IVec S16 32) a x).toNat < S32.size a := fun v393 k0_hw127 => k0_hw127

def k0_chk128 (v400 : IVec S16 32) : Prop :=
  (∀ a x, ((![v400] : Fin 1 → IVec S16 32) a x).toNat < S32.size a)
theorem k0_idx128_inb : ∀ (v400 : IVec S16 32) (k0_hw128 : k0_chk128 v400), ∀ a x, ((![v400] : Fin 1 → IVec S16 32) a x).toNat < S32.size a := fun v400 k0_hw128 => k0_hw128

def k0_chk129 (v407 : IVec S16 32) : Prop :=
  (∀ a x, ((![v407] : Fin 1 → IVec S16 32) a x).toNat < S32.size a)
theorem k0_idx129_inb : ∀ (v407 : IVec S16 32) (k0_hw129 : k0_chk129 v407), ∀ a x, ((![v407] : Fin 1 → IVec S16 32) a x).toNat < S32.size a := fun v407 k0_hw129 => k0_hw129

def k0_chk130 (v414 : IVec S16 32) : Prop :=
  (∀ a x, ((![v414] : Fin 1 → IVec S16 32) a x).toNat < S32.size a)
theorem k0_idx130_inb : ∀ (v414 : IVec S16 32) (k0_hw130 : k0_chk130 v414), ∀ a x, ((![v414] : Fin 1 → IVec S16 32) a x).toNat < S32.size a := fun v414 k0_hw130 => k0_hw130

def k0_chk131 (v421 : IVec S16 32) : Prop :=
  (∀ a x, ((![v421] : Fin 1 → IVec S16 32) a x).toNat < S32.size a)
theorem k0_idx131_inb : ∀ (v421 : IVec S16 32) (k0_hw131 : k0_chk131 v421), ∀ a x, ((![v421] : Fin 1 → IVec S16 32) a x).toNat < S32.size a := fun v421 k0_hw131 => k0_hw131

def k0_chk132 (v426 : IVec S16 32) : Prop :=
  (∀ a x, ((![v426] : Fin 1 → IVec S16 32) a x).toNat < S32.size a)
theorem k0_idx132_inb : ∀ (v426 : IVec S16 32) (k0_hw132 : k0_chk132 v426), ∀ a x, ((![v426] : Fin 1 → IVec S16 32) a x).toNat < S32.size a := fun v426 k0_hw132 => k0_hw132
def k0_off45 (k0_t22 : Fin k0_t22_loop.trips) : Fin 1 → Nat :=
  let c0_i32_125 : BitVec 32 := 0#32
  let c1_i32_127 : BitVec 32 := 1#32
  let arg14 : BitVec 32 := Scf.iv c0_i32_125 c1_i32_127 k0_t22
  let c16_i32_196 : BitVec 32 := 16#32
  let v431 : BitVec 32 := Scalar.muli arg14 c16_i32_196
  let v432 : Index := Scalar.indexCast v431
  ![v432.toNat]
@[reducible] def k0_t23_loop : Scf.Loop 32 :=
  let c0_i32_131 : BitVec 32 := 0#32
  let c1024_i32_132 : BitVec 32 := 1024#32
  let v273 : BitVec 32 := Scalar.addi c0_i32_131 c1024_i32_132
  let c1_i32_133 : BitVec 32 := 1#32
  ⟨c0_i32_131, v273, c1_i32_133⟩
def k0_off46 (k0_t23 : Fin k0_t23_loop.trips) : Fin 1 → Nat :=
  let c0_i32_131 : BitVec 32 := 0#32
  let c1_i32_133 : BitVec 32 := 1#32
  let arg14 : BitVec 32 := Scf.iv c0_i32_131 c1_i32_133 k0_t23
  let c16_i32 : BitVec 32 := 16#32
  let v387 : BitVec 32 := Scalar.muli arg14 c16_i32
  let v388 : Index := Scalar.indexCast v387
  ![v388.toNat]

def k0_chk133 (v393 : IVec S16 32) : Prop :=
  (∀ a x, ((![v393] : Fin 1 → IVec S16 32) a x).toNat < S32.size a)
theorem k0_idx133_inb : ∀ (v393 : IVec S16 32) (k0_hw133 : k0_chk133 v393), ∀ a x, ((![v393] : Fin 1 → IVec S16 32) a x).toNat < S32.size a := fun v393 k0_hw133 => k0_hw133

def k0_chk134 (v400 : IVec S16 32) : Prop :=
  (∀ a x, ((![v400] : Fin 1 → IVec S16 32) a x).toNat < S32.size a)
theorem k0_idx134_inb : ∀ (v400 : IVec S16 32) (k0_hw134 : k0_chk134 v400), ∀ a x, ((![v400] : Fin 1 → IVec S16 32) a x).toNat < S32.size a := fun v400 k0_hw134 => k0_hw134

def k0_chk135 (v407 : IVec S16 32) : Prop :=
  (∀ a x, ((![v407] : Fin 1 → IVec S16 32) a x).toNat < S32.size a)
theorem k0_idx135_inb : ∀ (v407 : IVec S16 32) (k0_hw135 : k0_chk135 v407), ∀ a x, ((![v407] : Fin 1 → IVec S16 32) a x).toNat < S32.size a := fun v407 k0_hw135 => k0_hw135

def k0_chk136 (v414 : IVec S16 32) : Prop :=
  (∀ a x, ((![v414] : Fin 1 → IVec S16 32) a x).toNat < S32.size a)
theorem k0_idx136_inb : ∀ (v414 : IVec S16 32) (k0_hw136 : k0_chk136 v414), ∀ a x, ((![v414] : Fin 1 → IVec S16 32) a x).toNat < S32.size a := fun v414 k0_hw136 => k0_hw136

def k0_chk137 (v421 : IVec S16 32) : Prop :=
  (∀ a x, ((![v421] : Fin 1 → IVec S16 32) a x).toNat < S32.size a)
theorem k0_idx137_inb : ∀ (v421 : IVec S16 32) (k0_hw137 : k0_chk137 v421), ∀ a x, ((![v421] : Fin 1 → IVec S16 32) a x).toNat < S32.size a := fun v421 k0_hw137 => k0_hw137

def k0_chk138 (v426 : IVec S16 32) : Prop :=
  (∀ a x, ((![v426] : Fin 1 → IVec S16 32) a x).toNat < S32.size a)
theorem k0_idx138_inb : ∀ (v426 : IVec S16 32) (k0_hw138 : k0_chk138 v426), ∀ a x, ((![v426] : Fin 1 → IVec S16 32) a x).toNat < S32.size a := fun v426 k0_hw138 => k0_hw138
def k0_off47 (k0_t23 : Fin k0_t23_loop.trips) : Fin 1 → Nat :=
  let c0_i32_131 : BitVec 32 := 0#32
  let c1_i32_133 : BitVec 32 := 1#32
  let arg14 : BitVec 32 := Scf.iv c0_i32_131 c1_i32_133 k0_t23
  let c16_i32_196 : BitVec 32 := 16#32
  let v431 : BitVec 32 := Scalar.muli arg14 c16_i32_196
  let v432 : Index := Scalar.indexCast v431
  ![v432.toNat]
@[reducible] def k0_t24_loop : Scf.Loop 32 :=
  let c0_i32_137 : BitVec 32 := 0#32
  let c1024_i32_138 : BitVec 32 := 1024#32
  let v285 : BitVec 32 := Scalar.addi c0_i32_137 c1024_i32_138
  let c1_i32_139 : BitVec 32 := 1#32
  ⟨c0_i32_137, v285, c1_i32_139⟩
def k0_off48 (k0_t24 : Fin k0_t24_loop.trips) : Fin 1 → Nat :=
  let c0_i32_137 : BitVec 32 := 0#32
  let c1_i32_139 : BitVec 32 := 1#32
  let arg14 : BitVec 32 := Scf.iv c0_i32_137 c1_i32_139 k0_t24
  let c16_i32 : BitVec 32 := 16#32
  let v387 : BitVec 32 := Scalar.muli arg14 c16_i32
  let v388 : Index := Scalar.indexCast v387
  ![v388.toNat]

def k0_chk139 (v393 : IVec S16 32) : Prop :=
  (∀ a x, ((![v393] : Fin 1 → IVec S16 32) a x).toNat < S32.size a)
theorem k0_idx139_inb : ∀ (v393 : IVec S16 32) (k0_hw139 : k0_chk139 v393), ∀ a x, ((![v393] : Fin 1 → IVec S16 32) a x).toNat < S32.size a := fun v393 k0_hw139 => k0_hw139

def k0_chk140 (v400 : IVec S16 32) : Prop :=
  (∀ a x, ((![v400] : Fin 1 → IVec S16 32) a x).toNat < S32.size a)
theorem k0_idx140_inb : ∀ (v400 : IVec S16 32) (k0_hw140 : k0_chk140 v400), ∀ a x, ((![v400] : Fin 1 → IVec S16 32) a x).toNat < S32.size a := fun v400 k0_hw140 => k0_hw140

def k0_chk141 (v407 : IVec S16 32) : Prop :=
  (∀ a x, ((![v407] : Fin 1 → IVec S16 32) a x).toNat < S32.size a)
theorem k0_idx141_inb : ∀ (v407 : IVec S16 32) (k0_hw141 : k0_chk141 v407), ∀ a x, ((![v407] : Fin 1 → IVec S16 32) a x).toNat < S32.size a := fun v407 k0_hw141 => k0_hw141

def k0_chk142 (v414 : IVec S16 32) : Prop :=
  (∀ a x, ((![v414] : Fin 1 → IVec S16 32) a x).toNat < S32.size a)
theorem k0_idx142_inb : ∀ (v414 : IVec S16 32) (k0_hw142 : k0_chk142 v414), ∀ a x, ((![v414] : Fin 1 → IVec S16 32) a x).toNat < S32.size a := fun v414 k0_hw142 => k0_hw142

def k0_chk143 (v421 : IVec S16 32) : Prop :=
  (∀ a x, ((![v421] : Fin 1 → IVec S16 32) a x).toNat < S32.size a)
theorem k0_idx143_inb : ∀ (v421 : IVec S16 32) (k0_hw143 : k0_chk143 v421), ∀ a x, ((![v421] : Fin 1 → IVec S16 32) a x).toNat < S32.size a := fun v421 k0_hw143 => k0_hw143

def k0_chk144 (v426 : IVec S16 32) : Prop :=
  (∀ a x, ((![v426] : Fin 1 → IVec S16 32) a x).toNat < S32.size a)
theorem k0_idx144_inb : ∀ (v426 : IVec S16 32) (k0_hw144 : k0_chk144 v426), ∀ a x, ((![v426] : Fin 1 → IVec S16 32) a x).toNat < S32.size a := fun v426 k0_hw144 => k0_hw144
def k0_off49 (k0_t24 : Fin k0_t24_loop.trips) : Fin 1 → Nat :=
  let c0_i32_137 : BitVec 32 := 0#32
  let c1_i32_139 : BitVec 32 := 1#32
  let arg14 : BitVec 32 := Scf.iv c0_i32_137 c1_i32_139 k0_t24
  let c16_i32_196 : BitVec 32 := 16#32
  let v431 : BitVec 32 := Scalar.muli arg14 c16_i32_196
  let v432 : Index := Scalar.indexCast v431
  ![v432.toNat]
@[reducible] def k0_t25_loop : Scf.Loop 32 :=
  let c0_i32_143 : BitVec 32 := 0#32
  let c1024_i32_144 : BitVec 32 := 1024#32
  let v297 : BitVec 32 := Scalar.addi c0_i32_143 c1024_i32_144
  let c1_i32_145 : BitVec 32 := 1#32
  ⟨c0_i32_143, v297, c1_i32_145⟩
def k0_off50 (k0_t25 : Fin k0_t25_loop.trips) : Fin 1 → Nat :=
  let c0_i32_143 : BitVec 32 := 0#32
  let c1_i32_145 : BitVec 32 := 1#32
  let arg14 : BitVec 32 := Scf.iv c0_i32_143 c1_i32_145 k0_t25
  let c16_i32 : BitVec 32 := 16#32
  let v387 : BitVec 32 := Scalar.muli arg14 c16_i32
  let v388 : Index := Scalar.indexCast v387
  ![v388.toNat]

def k0_chk145 (v393 : IVec S16 32) : Prop :=
  (∀ a x, ((![v393] : Fin 1 → IVec S16 32) a x).toNat < S32.size a)
theorem k0_idx145_inb : ∀ (v393 : IVec S16 32) (k0_hw145 : k0_chk145 v393), ∀ a x, ((![v393] : Fin 1 → IVec S16 32) a x).toNat < S32.size a := fun v393 k0_hw145 => k0_hw145

def k0_chk146 (v400 : IVec S16 32) : Prop :=
  (∀ a x, ((![v400] : Fin 1 → IVec S16 32) a x).toNat < S32.size a)
theorem k0_idx146_inb : ∀ (v400 : IVec S16 32) (k0_hw146 : k0_chk146 v400), ∀ a x, ((![v400] : Fin 1 → IVec S16 32) a x).toNat < S32.size a := fun v400 k0_hw146 => k0_hw146

def k0_chk147 (v407 : IVec S16 32) : Prop :=
  (∀ a x, ((![v407] : Fin 1 → IVec S16 32) a x).toNat < S32.size a)
theorem k0_idx147_inb : ∀ (v407 : IVec S16 32) (k0_hw147 : k0_chk147 v407), ∀ a x, ((![v407] : Fin 1 → IVec S16 32) a x).toNat < S32.size a := fun v407 k0_hw147 => k0_hw147

def k0_chk148 (v414 : IVec S16 32) : Prop :=
  (∀ a x, ((![v414] : Fin 1 → IVec S16 32) a x).toNat < S32.size a)
theorem k0_idx148_inb : ∀ (v414 : IVec S16 32) (k0_hw148 : k0_chk148 v414), ∀ a x, ((![v414] : Fin 1 → IVec S16 32) a x).toNat < S32.size a := fun v414 k0_hw148 => k0_hw148

def k0_chk149 (v421 : IVec S16 32) : Prop :=
  (∀ a x, ((![v421] : Fin 1 → IVec S16 32) a x).toNat < S32.size a)
theorem k0_idx149_inb : ∀ (v421 : IVec S16 32) (k0_hw149 : k0_chk149 v421), ∀ a x, ((![v421] : Fin 1 → IVec S16 32) a x).toNat < S32.size a := fun v421 k0_hw149 => k0_hw149

def k0_chk150 (v426 : IVec S16 32) : Prop :=
  (∀ a x, ((![v426] : Fin 1 → IVec S16 32) a x).toNat < S32.size a)
theorem k0_idx150_inb : ∀ (v426 : IVec S16 32) (k0_hw150 : k0_chk150 v426), ∀ a x, ((![v426] : Fin 1 → IVec S16 32) a x).toNat < S32.size a := fun v426 k0_hw150 => k0_hw150
def k0_off51 (k0_t25 : Fin k0_t25_loop.trips) : Fin 1 → Nat :=
  let c0_i32_143 : BitVec 32 := 0#32
  let c1_i32_145 : BitVec 32 := 1#32
  let arg14 : BitVec 32 := Scf.iv c0_i32_143 c1_i32_145 k0_t25
  let c16_i32_196 : BitVec 32 := 16#32
  let v431 : BitVec 32 := Scalar.muli arg14 c16_i32_196
  let v432 : Index := Scalar.indexCast v431
  ![v432.toNat]
@[reducible] def k0_t26_loop : Scf.Loop 32 :=
  let c0_i32_149 : BitVec 32 := 0#32
  let c1024_i32_150 : BitVec 32 := 1024#32
  let v309 : BitVec 32 := Scalar.addi c0_i32_149 c1024_i32_150
  let c1_i32_151 : BitVec 32 := 1#32
  ⟨c0_i32_149, v309, c1_i32_151⟩
def k0_off52 (k0_t26 : Fin k0_t26_loop.trips) : Fin 1 → Nat :=
  let c0_i32_149 : BitVec 32 := 0#32
  let c1_i32_151 : BitVec 32 := 1#32
  let arg14 : BitVec 32 := Scf.iv c0_i32_149 c1_i32_151 k0_t26
  let c16_i32 : BitVec 32 := 16#32
  let v387 : BitVec 32 := Scalar.muli arg14 c16_i32
  let v388 : Index := Scalar.indexCast v387
  ![v388.toNat]

def k0_chk151 (v393 : IVec S16 32) : Prop :=
  (∀ a x, ((![v393] : Fin 1 → IVec S16 32) a x).toNat < S32.size a)
theorem k0_idx151_inb : ∀ (v393 : IVec S16 32) (k0_hw151 : k0_chk151 v393), ∀ a x, ((![v393] : Fin 1 → IVec S16 32) a x).toNat < S32.size a := fun v393 k0_hw151 => k0_hw151

def k0_chk152 (v400 : IVec S16 32) : Prop :=
  (∀ a x, ((![v400] : Fin 1 → IVec S16 32) a x).toNat < S32.size a)
theorem k0_idx152_inb : ∀ (v400 : IVec S16 32) (k0_hw152 : k0_chk152 v400), ∀ a x, ((![v400] : Fin 1 → IVec S16 32) a x).toNat < S32.size a := fun v400 k0_hw152 => k0_hw152

def k0_chk153 (v407 : IVec S16 32) : Prop :=
  (∀ a x, ((![v407] : Fin 1 → IVec S16 32) a x).toNat < S32.size a)
theorem k0_idx153_inb : ∀ (v407 : IVec S16 32) (k0_hw153 : k0_chk153 v407), ∀ a x, ((![v407] : Fin 1 → IVec S16 32) a x).toNat < S32.size a := fun v407 k0_hw153 => k0_hw153

def k0_chk154 (v414 : IVec S16 32) : Prop :=
  (∀ a x, ((![v414] : Fin 1 → IVec S16 32) a x).toNat < S32.size a)
theorem k0_idx154_inb : ∀ (v414 : IVec S16 32) (k0_hw154 : k0_chk154 v414), ∀ a x, ((![v414] : Fin 1 → IVec S16 32) a x).toNat < S32.size a := fun v414 k0_hw154 => k0_hw154

def k0_chk155 (v421 : IVec S16 32) : Prop :=
  (∀ a x, ((![v421] : Fin 1 → IVec S16 32) a x).toNat < S32.size a)
theorem k0_idx155_inb : ∀ (v421 : IVec S16 32) (k0_hw155 : k0_chk155 v421), ∀ a x, ((![v421] : Fin 1 → IVec S16 32) a x).toNat < S32.size a := fun v421 k0_hw155 => k0_hw155

def k0_chk156 (v426 : IVec S16 32) : Prop :=
  (∀ a x, ((![v426] : Fin 1 → IVec S16 32) a x).toNat < S32.size a)
theorem k0_idx156_inb : ∀ (v426 : IVec S16 32) (k0_hw156 : k0_chk156 v426), ∀ a x, ((![v426] : Fin 1 → IVec S16 32) a x).toNat < S32.size a := fun v426 k0_hw156 => k0_hw156
def k0_off53 (k0_t26 : Fin k0_t26_loop.trips) : Fin 1 → Nat :=
  let c0_i32_149 : BitVec 32 := 0#32
  let c1_i32_151 : BitVec 32 := 1#32
  let arg14 : BitVec 32 := Scf.iv c0_i32_149 c1_i32_151 k0_t26
  let c16_i32_196 : BitVec 32 := 16#32
  let v431 : BitVec 32 := Scalar.muli arg14 c16_i32_196
  let v432 : Index := Scalar.indexCast v431
  ![v432.toNat]
@[reducible] def k0_t27_loop : Scf.Loop 32 :=
  let c0_i32_155 : BitVec 32 := 0#32
  let c1024_i32_156 : BitVec 32 := 1024#32
  let v321 : BitVec 32 := Scalar.addi c0_i32_155 c1024_i32_156
  let c1_i32_157 : BitVec 32 := 1#32
  ⟨c0_i32_155, v321, c1_i32_157⟩
def k0_off54 (k0_t27 : Fin k0_t27_loop.trips) : Fin 1 → Nat :=
  let c0_i32_155 : BitVec 32 := 0#32
  let c1_i32_157 : BitVec 32 := 1#32
  let arg14 : BitVec 32 := Scf.iv c0_i32_155 c1_i32_157 k0_t27
  let c16_i32 : BitVec 32 := 16#32
  let v387 : BitVec 32 := Scalar.muli arg14 c16_i32
  let v388 : Index := Scalar.indexCast v387
  ![v388.toNat]

def k0_chk157 (v393 : IVec S16 32) : Prop :=
  (∀ a x, ((![v393] : Fin 1 → IVec S16 32) a x).toNat < S32.size a)
theorem k0_idx157_inb : ∀ (v393 : IVec S16 32) (k0_hw157 : k0_chk157 v393), ∀ a x, ((![v393] : Fin 1 → IVec S16 32) a x).toNat < S32.size a := fun v393 k0_hw157 => k0_hw157

def k0_chk158 (v400 : IVec S16 32) : Prop :=
  (∀ a x, ((![v400] : Fin 1 → IVec S16 32) a x).toNat < S32.size a)
theorem k0_idx158_inb : ∀ (v400 : IVec S16 32) (k0_hw158 : k0_chk158 v400), ∀ a x, ((![v400] : Fin 1 → IVec S16 32) a x).toNat < S32.size a := fun v400 k0_hw158 => k0_hw158

def k0_chk159 (v407 : IVec S16 32) : Prop :=
  (∀ a x, ((![v407] : Fin 1 → IVec S16 32) a x).toNat < S32.size a)
theorem k0_idx159_inb : ∀ (v407 : IVec S16 32) (k0_hw159 : k0_chk159 v407), ∀ a x, ((![v407] : Fin 1 → IVec S16 32) a x).toNat < S32.size a := fun v407 k0_hw159 => k0_hw159

def k0_chk160 (v414 : IVec S16 32) : Prop :=
  (∀ a x, ((![v414] : Fin 1 → IVec S16 32) a x).toNat < S32.size a)
theorem k0_idx160_inb : ∀ (v414 : IVec S16 32) (k0_hw160 : k0_chk160 v414), ∀ a x, ((![v414] : Fin 1 → IVec S16 32) a x).toNat < S32.size a := fun v414 k0_hw160 => k0_hw160

def k0_chk161 (v421 : IVec S16 32) : Prop :=
  (∀ a x, ((![v421] : Fin 1 → IVec S16 32) a x).toNat < S32.size a)
theorem k0_idx161_inb : ∀ (v421 : IVec S16 32) (k0_hw161 : k0_chk161 v421), ∀ a x, ((![v421] : Fin 1 → IVec S16 32) a x).toNat < S32.size a := fun v421 k0_hw161 => k0_hw161

def k0_chk162 (v426 : IVec S16 32) : Prop :=
  (∀ a x, ((![v426] : Fin 1 → IVec S16 32) a x).toNat < S32.size a)
theorem k0_idx162_inb : ∀ (v426 : IVec S16 32) (k0_hw162 : k0_chk162 v426), ∀ a x, ((![v426] : Fin 1 → IVec S16 32) a x).toNat < S32.size a := fun v426 k0_hw162 => k0_hw162
def k0_off55 (k0_t27 : Fin k0_t27_loop.trips) : Fin 1 → Nat :=
  let c0_i32_155 : BitVec 32 := 0#32
  let c1_i32_157 : BitVec 32 := 1#32
  let arg14 : BitVec 32 := Scf.iv c0_i32_155 c1_i32_157 k0_t27
  let c16_i32_196 : BitVec 32 := 16#32
  let v431 : BitVec 32 := Scalar.muli arg14 c16_i32_196
  let v432 : Index := Scalar.indexCast v431
  ![v432.toNat]
@[reducible] def k0_t28_loop : Scf.Loop 32 :=
  let c0_i32_161 : BitVec 32 := 0#32
  let c1024_i32_162 : BitVec 32 := 1024#32
  let v333 : BitVec 32 := Scalar.addi c0_i32_161 c1024_i32_162
  let c1_i32_163 : BitVec 32 := 1#32
  ⟨c0_i32_161, v333, c1_i32_163⟩
def k0_off56 (k0_t28 : Fin k0_t28_loop.trips) : Fin 1 → Nat :=
  let c0_i32_161 : BitVec 32 := 0#32
  let c1_i32_163 : BitVec 32 := 1#32
  let arg14 : BitVec 32 := Scf.iv c0_i32_161 c1_i32_163 k0_t28
  let c16_i32 : BitVec 32 := 16#32
  let v387 : BitVec 32 := Scalar.muli arg14 c16_i32
  let v388 : Index := Scalar.indexCast v387
  ![v388.toNat]

def k0_chk163 (v393 : IVec S16 32) : Prop :=
  (∀ a x, ((![v393] : Fin 1 → IVec S16 32) a x).toNat < S32.size a)
theorem k0_idx163_inb : ∀ (v393 : IVec S16 32) (k0_hw163 : k0_chk163 v393), ∀ a x, ((![v393] : Fin 1 → IVec S16 32) a x).toNat < S32.size a := fun v393 k0_hw163 => k0_hw163

def k0_chk164 (v400 : IVec S16 32) : Prop :=
  (∀ a x, ((![v400] : Fin 1 → IVec S16 32) a x).toNat < S32.size a)
theorem k0_idx164_inb : ∀ (v400 : IVec S16 32) (k0_hw164 : k0_chk164 v400), ∀ a x, ((![v400] : Fin 1 → IVec S16 32) a x).toNat < S32.size a := fun v400 k0_hw164 => k0_hw164

def k0_chk165 (v407 : IVec S16 32) : Prop :=
  (∀ a x, ((![v407] : Fin 1 → IVec S16 32) a x).toNat < S32.size a)
theorem k0_idx165_inb : ∀ (v407 : IVec S16 32) (k0_hw165 : k0_chk165 v407), ∀ a x, ((![v407] : Fin 1 → IVec S16 32) a x).toNat < S32.size a := fun v407 k0_hw165 => k0_hw165

def k0_chk166 (v414 : IVec S16 32) : Prop :=
  (∀ a x, ((![v414] : Fin 1 → IVec S16 32) a x).toNat < S32.size a)
theorem k0_idx166_inb : ∀ (v414 : IVec S16 32) (k0_hw166 : k0_chk166 v414), ∀ a x, ((![v414] : Fin 1 → IVec S16 32) a x).toNat < S32.size a := fun v414 k0_hw166 => k0_hw166

def k0_chk167 (v421 : IVec S16 32) : Prop :=
  (∀ a x, ((![v421] : Fin 1 → IVec S16 32) a x).toNat < S32.size a)
theorem k0_idx167_inb : ∀ (v421 : IVec S16 32) (k0_hw167 : k0_chk167 v421), ∀ a x, ((![v421] : Fin 1 → IVec S16 32) a x).toNat < S32.size a := fun v421 k0_hw167 => k0_hw167

def k0_chk168 (v426 : IVec S16 32) : Prop :=
  (∀ a x, ((![v426] : Fin 1 → IVec S16 32) a x).toNat < S32.size a)
theorem k0_idx168_inb : ∀ (v426 : IVec S16 32) (k0_hw168 : k0_chk168 v426), ∀ a x, ((![v426] : Fin 1 → IVec S16 32) a x).toNat < S32.size a := fun v426 k0_hw168 => k0_hw168
def k0_off57 (k0_t28 : Fin k0_t28_loop.trips) : Fin 1 → Nat :=
  let c0_i32_161 : BitVec 32 := 0#32
  let c1_i32_163 : BitVec 32 := 1#32
  let arg14 : BitVec 32 := Scf.iv c0_i32_161 c1_i32_163 k0_t28
  let c16_i32_196 : BitVec 32 := 16#32
  let v431 : BitVec 32 := Scalar.muli arg14 c16_i32_196
  let v432 : Index := Scalar.indexCast v431
  ![v432.toNat]
@[reducible] def k0_t29_loop : Scf.Loop 32 :=
  let c0_i32_167 : BitVec 32 := 0#32
  let c1024_i32_168 : BitVec 32 := 1024#32
  let v345 : BitVec 32 := Scalar.addi c0_i32_167 c1024_i32_168
  let c1_i32_169 : BitVec 32 := 1#32
  ⟨c0_i32_167, v345, c1_i32_169⟩
def k0_off58 (k0_t29 : Fin k0_t29_loop.trips) : Fin 1 → Nat :=
  let c0_i32_167 : BitVec 32 := 0#32
  let c1_i32_169 : BitVec 32 := 1#32
  let arg14 : BitVec 32 := Scf.iv c0_i32_167 c1_i32_169 k0_t29
  let c16_i32 : BitVec 32 := 16#32
  let v387 : BitVec 32 := Scalar.muli arg14 c16_i32
  let v388 : Index := Scalar.indexCast v387
  ![v388.toNat]

def k0_chk169 (v393 : IVec S16 32) : Prop :=
  (∀ a x, ((![v393] : Fin 1 → IVec S16 32) a x).toNat < S32.size a)
theorem k0_idx169_inb : ∀ (v393 : IVec S16 32) (k0_hw169 : k0_chk169 v393), ∀ a x, ((![v393] : Fin 1 → IVec S16 32) a x).toNat < S32.size a := fun v393 k0_hw169 => k0_hw169

def k0_chk170 (v400 : IVec S16 32) : Prop :=
  (∀ a x, ((![v400] : Fin 1 → IVec S16 32) a x).toNat < S32.size a)
theorem k0_idx170_inb : ∀ (v400 : IVec S16 32) (k0_hw170 : k0_chk170 v400), ∀ a x, ((![v400] : Fin 1 → IVec S16 32) a x).toNat < S32.size a := fun v400 k0_hw170 => k0_hw170

def k0_chk171 (v407 : IVec S16 32) : Prop :=
  (∀ a x, ((![v407] : Fin 1 → IVec S16 32) a x).toNat < S32.size a)
theorem k0_idx171_inb : ∀ (v407 : IVec S16 32) (k0_hw171 : k0_chk171 v407), ∀ a x, ((![v407] : Fin 1 → IVec S16 32) a x).toNat < S32.size a := fun v407 k0_hw171 => k0_hw171

def k0_chk172 (v414 : IVec S16 32) : Prop :=
  (∀ a x, ((![v414] : Fin 1 → IVec S16 32) a x).toNat < S32.size a)
theorem k0_idx172_inb : ∀ (v414 : IVec S16 32) (k0_hw172 : k0_chk172 v414), ∀ a x, ((![v414] : Fin 1 → IVec S16 32) a x).toNat < S32.size a := fun v414 k0_hw172 => k0_hw172

def k0_chk173 (v421 : IVec S16 32) : Prop :=
  (∀ a x, ((![v421] : Fin 1 → IVec S16 32) a x).toNat < S32.size a)
theorem k0_idx173_inb : ∀ (v421 : IVec S16 32) (k0_hw173 : k0_chk173 v421), ∀ a x, ((![v421] : Fin 1 → IVec S16 32) a x).toNat < S32.size a := fun v421 k0_hw173 => k0_hw173

def k0_chk174 (v426 : IVec S16 32) : Prop :=
  (∀ a x, ((![v426] : Fin 1 → IVec S16 32) a x).toNat < S32.size a)
theorem k0_idx174_inb : ∀ (v426 : IVec S16 32) (k0_hw174 : k0_chk174 v426), ∀ a x, ((![v426] : Fin 1 → IVec S16 32) a x).toNat < S32.size a := fun v426 k0_hw174 => k0_hw174
def k0_off59 (k0_t29 : Fin k0_t29_loop.trips) : Fin 1 → Nat :=
  let c0_i32_167 : BitVec 32 := 0#32
  let c1_i32_169 : BitVec 32 := 1#32
  let arg14 : BitVec 32 := Scf.iv c0_i32_167 c1_i32_169 k0_t29
  let c16_i32_196 : BitVec 32 := 16#32
  let v431 : BitVec 32 := Scalar.muli arg14 c16_i32_196
  let v432 : Index := Scalar.indexCast v431
  ![v432.toNat]
@[reducible] def k0_t30_loop : Scf.Loop 32 :=
  let c0_i32_173 : BitVec 32 := 0#32
  let c1024_i32_174 : BitVec 32 := 1024#32
  let v357 : BitVec 32 := Scalar.addi c0_i32_173 c1024_i32_174
  let c1_i32_175 : BitVec 32 := 1#32
  ⟨c0_i32_173, v357, c1_i32_175⟩
def k0_off60 (k0_t30 : Fin k0_t30_loop.trips) : Fin 1 → Nat :=
  let c0_i32_173 : BitVec 32 := 0#32
  let c1_i32_175 : BitVec 32 := 1#32
  let arg14 : BitVec 32 := Scf.iv c0_i32_173 c1_i32_175 k0_t30
  let c16_i32 : BitVec 32 := 16#32
  let v387 : BitVec 32 := Scalar.muli arg14 c16_i32
  let v388 : Index := Scalar.indexCast v387
  ![v388.toNat]

def k0_chk175 (v393 : IVec S16 32) : Prop :=
  (∀ a x, ((![v393] : Fin 1 → IVec S16 32) a x).toNat < S32.size a)
theorem k0_idx175_inb : ∀ (v393 : IVec S16 32) (k0_hw175 : k0_chk175 v393), ∀ a x, ((![v393] : Fin 1 → IVec S16 32) a x).toNat < S32.size a := fun v393 k0_hw175 => k0_hw175

def k0_chk176 (v400 : IVec S16 32) : Prop :=
  (∀ a x, ((![v400] : Fin 1 → IVec S16 32) a x).toNat < S32.size a)
theorem k0_idx176_inb : ∀ (v400 : IVec S16 32) (k0_hw176 : k0_chk176 v400), ∀ a x, ((![v400] : Fin 1 → IVec S16 32) a x).toNat < S32.size a := fun v400 k0_hw176 => k0_hw176

def k0_chk177 (v407 : IVec S16 32) : Prop :=
  (∀ a x, ((![v407] : Fin 1 → IVec S16 32) a x).toNat < S32.size a)
theorem k0_idx177_inb : ∀ (v407 : IVec S16 32) (k0_hw177 : k0_chk177 v407), ∀ a x, ((![v407] : Fin 1 → IVec S16 32) a x).toNat < S32.size a := fun v407 k0_hw177 => k0_hw177

def k0_chk178 (v414 : IVec S16 32) : Prop :=
  (∀ a x, ((![v414] : Fin 1 → IVec S16 32) a x).toNat < S32.size a)
theorem k0_idx178_inb : ∀ (v414 : IVec S16 32) (k0_hw178 : k0_chk178 v414), ∀ a x, ((![v414] : Fin 1 → IVec S16 32) a x).toNat < S32.size a := fun v414 k0_hw178 => k0_hw178

def k0_chk179 (v421 : IVec S16 32) : Prop :=
  (∀ a x, ((![v421] : Fin 1 → IVec S16 32) a x).toNat < S32.size a)
theorem k0_idx179_inb : ∀ (v421 : IVec S16 32) (k0_hw179 : k0_chk179 v421), ∀ a x, ((![v421] : Fin 1 → IVec S16 32) a x).toNat < S32.size a := fun v421 k0_hw179 => k0_hw179

def k0_chk180 (v426 : IVec S16 32) : Prop :=
  (∀ a x, ((![v426] : Fin 1 → IVec S16 32) a x).toNat < S32.size a)
theorem k0_idx180_inb : ∀ (v426 : IVec S16 32) (k0_hw180 : k0_chk180 v426), ∀ a x, ((![v426] : Fin 1 → IVec S16 32) a x).toNat < S32.size a := fun v426 k0_hw180 => k0_hw180
def k0_off61 (k0_t30 : Fin k0_t30_loop.trips) : Fin 1 → Nat :=
  let c0_i32_173 : BitVec 32 := 0#32
  let c1_i32_175 : BitVec 32 := 1#32
  let arg14 : BitVec 32 := Scf.iv c0_i32_173 c1_i32_175 k0_t30
  let c16_i32_196 : BitVec 32 := 16#32
  let v431 : BitVec 32 := Scalar.muli arg14 c16_i32_196
  let v432 : Index := Scalar.indexCast v431
  ![v432.toNat]
@[reducible] def k0_t31_loop : Scf.Loop 32 :=
  let c0_i32_179 : BitVec 32 := 0#32
  let c1024_i32_180 : BitVec 32 := 1024#32
  let v369 : BitVec 32 := Scalar.addi c0_i32_179 c1024_i32_180
  let c1_i32_181 : BitVec 32 := 1#32
  ⟨c0_i32_179, v369, c1_i32_181⟩
def k0_off62 (k0_t31 : Fin k0_t31_loop.trips) : Fin 1 → Nat :=
  let c0_i32_179 : BitVec 32 := 0#32
  let c1_i32_181 : BitVec 32 := 1#32
  let arg14 : BitVec 32 := Scf.iv c0_i32_179 c1_i32_181 k0_t31
  let c16_i32 : BitVec 32 := 16#32
  let v387 : BitVec 32 := Scalar.muli arg14 c16_i32
  let v388 : Index := Scalar.indexCast v387
  ![v388.toNat]

def k0_chk181 (v393 : IVec S16 32) : Prop :=
  (∀ a x, ((![v393] : Fin 1 → IVec S16 32) a x).toNat < S32.size a)
theorem k0_idx181_inb : ∀ (v393 : IVec S16 32) (k0_hw181 : k0_chk181 v393), ∀ a x, ((![v393] : Fin 1 → IVec S16 32) a x).toNat < S32.size a := fun v393 k0_hw181 => k0_hw181

def k0_chk182 (v400 : IVec S16 32) : Prop :=
  (∀ a x, ((![v400] : Fin 1 → IVec S16 32) a x).toNat < S32.size a)
theorem k0_idx182_inb : ∀ (v400 : IVec S16 32) (k0_hw182 : k0_chk182 v400), ∀ a x, ((![v400] : Fin 1 → IVec S16 32) a x).toNat < S32.size a := fun v400 k0_hw182 => k0_hw182

def k0_chk183 (v407 : IVec S16 32) : Prop :=
  (∀ a x, ((![v407] : Fin 1 → IVec S16 32) a x).toNat < S32.size a)
theorem k0_idx183_inb : ∀ (v407 : IVec S16 32) (k0_hw183 : k0_chk183 v407), ∀ a x, ((![v407] : Fin 1 → IVec S16 32) a x).toNat < S32.size a := fun v407 k0_hw183 => k0_hw183

def k0_chk184 (v414 : IVec S16 32) : Prop :=
  (∀ a x, ((![v414] : Fin 1 → IVec S16 32) a x).toNat < S32.size a)
theorem k0_idx184_inb : ∀ (v414 : IVec S16 32) (k0_hw184 : k0_chk184 v414), ∀ a x, ((![v414] : Fin 1 → IVec S16 32) a x).toNat < S32.size a := fun v414 k0_hw184 => k0_hw184

def k0_chk185 (v421 : IVec S16 32) : Prop :=
  (∀ a x, ((![v421] : Fin 1 → IVec S16 32) a x).toNat < S32.size a)
theorem k0_idx185_inb : ∀ (v421 : IVec S16 32) (k0_hw185 : k0_chk185 v421), ∀ a x, ((![v421] : Fin 1 → IVec S16 32) a x).toNat < S32.size a := fun v421 k0_hw185 => k0_hw185

def k0_chk186 (v426 : IVec S16 32) : Prop :=
  (∀ a x, ((![v426] : Fin 1 → IVec S16 32) a x).toNat < S32.size a)
theorem k0_idx186_inb : ∀ (v426 : IVec S16 32) (k0_hw186 : k0_chk186 v426), ∀ a x, ((![v426] : Fin 1 → IVec S16 32) a x).toNat < S32.size a := fun v426 k0_hw186 => k0_hw186
def k0_off63 (k0_t31 : Fin k0_t31_loop.trips) : Fin 1 → Nat :=
  let c0_i32_179 : BitVec 32 := 0#32
  let c1_i32_181 : BitVec 32 := 1#32
  let arg14 : BitVec 32 := Scf.iv c0_i32_179 c1_i32_181 k0_t31
  let c16_i32_196 : BitVec 32 := 16#32
  let v431 : BitVec 32 := Scalar.muli arg14 c16_i32_196
  let v432 : Index := Scalar.indexCast v431
  ![v432.toNat]
@[reducible] def k0_t32_loop : Scf.Loop 32 :=
  let c0_i32_185 : BitVec 32 := 0#32
  let c1024_i32_186 : BitVec 32 := 1024#32
  let v378 : BitVec 32 := Scalar.addi c0_i32_185 c1024_i32_186
  let c1_i32_187 : BitVec 32 := 1#32
  ⟨c0_i32_185, v378, c1_i32_187⟩
def k0_off64 (k0_t32 : Fin k0_t32_loop.trips) : Fin 1 → Nat :=
  let c0_i32_185 : BitVec 32 := 0#32
  let c1_i32_187 : BitVec 32 := 1#32
  let arg14 : BitVec 32 := Scf.iv c0_i32_185 c1_i32_187 k0_t32
  let c16_i32 : BitVec 32 := 16#32
  let v387 : BitVec 32 := Scalar.muli arg14 c16_i32
  let v388 : Index := Scalar.indexCast v387
  ![v388.toNat]

def k0_chk187 (v393 : IVec S16 32) : Prop :=
  (∀ a x, ((![v393] : Fin 1 → IVec S16 32) a x).toNat < S32.size a)
theorem k0_idx187_inb : ∀ (v393 : IVec S16 32) (k0_hw187 : k0_chk187 v393), ∀ a x, ((![v393] : Fin 1 → IVec S16 32) a x).toNat < S32.size a := fun v393 k0_hw187 => k0_hw187

def k0_chk188 (v400 : IVec S16 32) : Prop :=
  (∀ a x, ((![v400] : Fin 1 → IVec S16 32) a x).toNat < S32.size a)
theorem k0_idx188_inb : ∀ (v400 : IVec S16 32) (k0_hw188 : k0_chk188 v400), ∀ a x, ((![v400] : Fin 1 → IVec S16 32) a x).toNat < S32.size a := fun v400 k0_hw188 => k0_hw188

def k0_chk189 (v407 : IVec S16 32) : Prop :=
  (∀ a x, ((![v407] : Fin 1 → IVec S16 32) a x).toNat < S32.size a)
theorem k0_idx189_inb : ∀ (v407 : IVec S16 32) (k0_hw189 : k0_chk189 v407), ∀ a x, ((![v407] : Fin 1 → IVec S16 32) a x).toNat < S32.size a := fun v407 k0_hw189 => k0_hw189

def k0_chk190 (v414 : IVec S16 32) : Prop :=
  (∀ a x, ((![v414] : Fin 1 → IVec S16 32) a x).toNat < S32.size a)
theorem k0_idx190_inb : ∀ (v414 : IVec S16 32) (k0_hw190 : k0_chk190 v414), ∀ a x, ((![v414] : Fin 1 → IVec S16 32) a x).toNat < S32.size a := fun v414 k0_hw190 => k0_hw190

def k0_chk191 (v421 : IVec S16 32) : Prop :=
  (∀ a x, ((![v421] : Fin 1 → IVec S16 32) a x).toNat < S32.size a)
theorem k0_idx191_inb : ∀ (v421 : IVec S16 32) (k0_hw191 : k0_chk191 v421), ∀ a x, ((![v421] : Fin 1 → IVec S16 32) a x).toNat < S32.size a := fun v421 k0_hw191 => k0_hw191

def k0_chk192 (v426 : IVec S16 32) : Prop :=
  (∀ a x, ((![v426] : Fin 1 → IVec S16 32) a x).toNat < S32.size a)
theorem k0_idx192_inb : ∀ (v426 : IVec S16 32) (k0_hw192 : k0_chk192 v426), ∀ a x, ((![v426] : Fin 1 → IVec S16 32) a x).toNat < S32.size a := fun v426 k0_hw192 => k0_hw192
def k0_off65 (k0_t32 : Fin k0_t32_loop.trips) : Fin 1 → Nat :=
  let c0_i32_185 : BitVec 32 := 0#32
  let c1_i32_187 : BitVec 32 := 1#32
  let arg14 : BitVec 32 := Scf.iv c0_i32_185 c1_i32_187 k0_t32
  let c16_i32_196 : BitVec 32 := 16#32
  let v431 : BitVec 32 := Scalar.muli arg14 c16_i32_196
  let v432 : Index := Scalar.indexCast v431
  ![v432.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16777216 : Shape := ⟨1, ![16777216]⟩
abbrev S32 : Shape := ⟨1, ![32]⟩
abbrev S1x32 : Shape := ⟨2, ![1, 32]⟩
abbrev S16777216x1 : Shape := ⟨2, ![16777216, 1]⟩
abbrev S16777216x32 : Shape := ⟨2, ![16777216, 32]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S16777216, .f32⟩
  | .hbm, ⟨1, _⟩ => ⟨S32, .f32⟩
  | .hbm, ⟨2, _⟩ => ⟨S1x32, .f32⟩
  | .hbm, ⟨3, _⟩ => ⟨S16777216x1, .f32⟩
  | .hbm, ⟨4, _⟩ => ⟨S16777216x32, .f32⟩
  | .hbm, ⟨5, _⟩ => ⟨S16777216x32, .f32⟩
  | .hbm, ⟨6, _⟩ => ⟨S16777216x32, .i1⟩
  | .hbm, ⟨7, _⟩ => ⟨S16777216x32, .i32⟩
  | .hbm, ⟨8, _⟩ => ⟨S_, .i32⟩
  | .hbm, ⟨9, _⟩ => ⟨S16777216, .i32⟩
  | _, _ => ⟨S16777216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_c : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Proof.Search.lean ====
/-
  The search a lane makes, as a function of the table and the value.

  The table has 32 entries. `halve` is one comparison of the binary search: it looks `d` entries past the lower end `lo`
  and moves the lower end up by `w` if that entry is at most the value. Five of them (probing 16, 8, 4, 2 and 1 apart)
  leave the lower end at `slot`, and the count is `slot` plus one more comparison at that very entry. Nothing here
  depends on how floats compare: the lower end stays below 32 whatever the comparisons answer, so every probe is inside
  the table. That sorted tables make `count` the number of entries at most the value is in `Counting.lean`.
-/
module

public import Idealize.ShloMosaic.PureOps

@[expose] public section

noncomputable section

namespace Cert.Proof.Search

open Idealize.ShloMosaic

variable {F : FTy → Type} [FloatOps F]

/-- The table's shape. -/
abbrev TabS : Shape := ⟨1, ![32]⟩

/-- The table entry a word names, wrapping past the end (the search never does). -/
def entry (w : BitVec 32) : TabS.Idx := fun a => ⟨w.toNat % 32, by
  have : TabS.size a = 32 := by fin_cases a; rfl
  omega⟩

/-- One comparison of the search. -/
def halve (b : FVec F TabS .f32) (v : F .f32) (lo d w : BitVec 32) : BitVec 32 :=
  Scalar.select (FloatOps.cmpf .ole (b (entry (lo + d))) v) (lo + w) lo

/-- The lower end after one to five comparisons. -/
def lo1 (b : FVec F TabS .f32) (v : F .f32) : BitVec 32 := halve b v 0#32 15#32 16#32
@[inherit_doc lo1] def lo2 (b : FVec F TabS .f32) (v : F .f32) : BitVec 32 := halve b v (lo1 b v) 7#32 8#32
@[inherit_doc lo1] def lo3 (b : FVec F TabS .f32) (v : F .f32) : BitVec 32 := halve b v (lo2 b v) 3#32 4#32
@[inherit_doc lo1] def lo4 (b : FVec F TabS .f32) (v : F .f32) : BitVec 32 := halve b v (lo3 b v) 1#32 2#32
@[inherit_doc lo1] def slot (b : FVec F TabS .f32) (v : F .f32) : BitVec 32 := halve b v (lo4 b v) 0#32 1#32

/-- What a lane stores: the lower end, plus one if the entry there is at most the value. -/
def count (b : FVec F TabS .f32) (v : F .f32) : BitVec 32 :=
  slot b v + (FloatOps.cmpf .ole (b (entry (slot b v))) v).setWidth 32

/-! ## The lower end stays in the table -/

/-- A comparison moves the lower end up by at most `w`. -/
theorem halve_le (b : FVec F TabS .f32) (v : F .f32) {lo : BitVec 32} {n : ℕ} (d w : BitVec 32) (h : lo.toNat ≤ n) (hw : n + w.toNat < 2 ^ 32) :
    (halve b v lo d w).toNat ≤ n + w.toNat := by
  unfold halve Scalar.select
  split
  · rw [BitVec.toNat_add, Nat.mod_eq_of_lt (by omega)]; omega
  · omega

/-- How far up the lower end can be after one to five comparisons. -/
theorem lo1_le (b : FVec F TabS .f32) (v : F .f32) : (lo1 b v).toNat ≤ 16 := halve_le b v (n := 0) _ 16#32 (Nat.le_refl _) (by decide)
@[inherit_doc lo1_le] theorem lo2_le (b : FVec F TabS .f32) (v : F .f32) : (lo2 b v).toNat ≤ 24 := halve_le b v (n := 16) _ 8#32 (lo1_le b v) (by decide)
@[inherit_doc lo1_le] theorem lo3_le (b : FVec F TabS .f32) (v : F .f32) : (lo3 b v).toNat ≤ 28 := halve_le b v (n := 24) _ 4#32 (lo2_le b v) (by decide)
@[inherit_doc lo1_le] theorem lo4_le (b : FVec F TabS .f32) (v : F .f32) : (lo4 b v).toNat ≤ 30 := halve_le b v (n := 28) _ 2#32 (lo3_le b v) (by decide)
@[inherit_doc lo1_le] theorem slot_le (b : FVec F TabS .f32) (v : F .f32) : (slot b v).toNat ≤ 31 := halve_le b v (n := 30) _ 1#32 (lo4_le b v) (by decide)

/-- A probe `d` past a lower end at most `n` is inside the table when `n + d` is. -/
theorem probe_lt {lo : BitVec 32} {n : ℕ} (d : BitVec 32) (h : lo.toNat ≤ n) (hd : n + d.toNat < 32) : (lo + d).toNat < 32 := by
  rw [BitVec.toNat_add, Nat.mod_eq_of_lt (by omega)]; omega

/-! ## Gathering from the table -/

/-- A gather out of the table at words inside it reads the entries the words name. -/
theorem loadIdx_entry {t : Shape} (f : Vec F TabS .f32) (v : IVec t 32) (h : ∀ a x, ((![v] : Fin 1 → IVec t 32) a x).toNat < TabS.size a) :
    loadIdx (F := F) (e := .f32) f ![v] h = fun x => f (entry (v x)) := by
  funext x
  unfold loadIdx
  refine congrArg f (funext fun a => Fin.ext ?_)
  fin_cases a
  have : (v x).toNat < 32 := h 0 x
  exact (Nat.mod_eq_of_lt this).symm

/-- Words below 32 pass the gather's check. -/
theorem chk {t : Shape} {v : IVec t 32} (h : ∀ x, (v x).toNat < 32) : ∀ a x, ((![v] : Fin 1 → IVec t 32) a x).toNat < TabS.size a := by
  intro a x
  fin_cases a
  exact h x

end Cert.Proof.Search

end
-- ==== Proof.KernelIdeal.Program.lean ====
/-
  The tile kernel of `KernelIdeal` written compactly.

  The printed kernel function is one straight line: it fetches the boundary table, then works through the thirty-two
  chunks of its tile's stretch with two input and two output buffers, each chunk's search loop printed anew. Here the
  same function is written as a program over a chunk number: `trip` is one trip of the search loop over a given pair of
  buffers, `scan` the loop, `startIn`/`waitIn`/`startOut`/`waitOut` the four copy statements, `pair n` the steady state
  (chunks `2n+2` and `2n+3`), and `task` the whole. `body_eq` says the printed function is `task`, by computation after
  reassociating its statements.
-/
module

public import proofs.«01_k».proof.Defs
public import proofs.«01_k».proof.Proof.Gen.KernelIdeal

@[expose] public section

set_option maxRecDepth 16384

noncomputable section

namespace Cert.Proof.KernelIdeal

open Cert.KernelIdeal Cert.KernelIdeal.Gen
open Idealize.ShloMosaic Idealize.SL.Sem

variable {F : FTy → Type} [FloatOps F]

/-! ## The buffers, as a tile's program names them -/

/-- The input array, whole. -/
abbrev xA : Memref sig .scVector .hbm S16777216 .f32 := Memref.whole main_arg0_scv
/-- The boundary table in main memory. -/
abbrev bA : Memref sig .scVector .hbm S32 .f32 := Memref.whole main_arg1_scv
/-- The result array, whole. -/
abbrev oA : Memref sig .scVector .hbm S16777216 .i32 := Memref.whole main_v0_scv
/-- The tile's copy of the boundary table. -/
abbrev bT : Memref sig .scVector .vmem S32 .f32 := Memref.whole cc0_scratch0
/-- The input buffer of the even chunks. -/
abbrev x0 : Memref sig .scVector .vmem S16384 .f32 := Memref.whole cc0_scratch1
/-- The input buffer of the odd chunks. -/
abbrev x1 : Memref sig .scVector .vmem S16384 .f32 := Memref.whole cc0_scratch2
/-- The output buffer of the even chunks. -/
abbrev o0 : Memref sig .scVector .vmem S16384 .i32 := Memref.whole cc0_scratch3
/-- The output buffer of the odd chunks. -/
abbrev o1 : Memref sig .scVector .vmem S16384 .i32 := Memref.whole cc0_scratch4

/-- Chunk `g` of tile `i`, as a rectangle of an array of the input's shape. -/
abbrev chunkR (i : grid0.Coords) (g : Fin 32) : Rect S16777216 :=
  Rect.unit (s := S16777216) (k0_off1 i (BitVec.ofNat 32 (16384 * g.val))) S16384.size (k0_off1_inb i g)

/-- Chunk `g` of the input. -/
abbrev xC (i : grid0.Coords) (g : Fin 32) : Memref sig .scVector .hbm S16384 .f32 := xA.slice (chunkR i g) (fun _ => rfl)
/-- Chunk `g` of the result. -/
abbrev oC (i : grid0.Coords) (g : Fin 32) : Memref sig .scVector .hbm S16384 .i32 := oA.slice (chunkR i g) (fun _ => rfl)

/-- The programs of tile `i`. -/
abbrev TProg (F : FTy → Type) [FloatOps F] (i : grid0.Coords) (α : Type) : Type 1 :=
  Prog (TpuEff nD τ sig (Elt F) Λ₀ (.scVector ((i 0).castLE hcore0) ((i 1).castLE hsub0))) α

/-! ## The search loop -/

/-- One trip of the search loop over input buffer `xb` and output buffer `ob`: the sixteen values of trip `t`, each
    searched for in the tile's table, the sixteen counts stored. -/
def trip (i : grid0.Coords) (xb : Memref sig .scVector .vmem S16384 .f32) (hxb : xb.IsWhole)
    (ob : Memref sig .scVector .vmem S16384 .i32) (t : Fin k0_t1_loop.trips) : TProg F i (BitVec 32) := do
  let r ← k0_part1 (F := F) i xA (Memref.isWhole_whole _) bA (Memref.isWhole_whole _) oA (Memref.isWhole_whole _) bT (Memref.isWhole_whole _)
    xb hxb x1 (Memref.isWhole_whole _) o0 (Memref.isWhole_whole _) o1 (Memref.isWhole_whole _)
    cc0_scratch5 cc0_scratch6 cc0_scratch7 cc0_scratch8 cc0_scoped0 0#32 1#32 t
  let _ ← Prog.lift (.load ob (Rect.unit (s := S16384) (k0_off3 t) S16.size (k0_off3_inb t)).toLoadRect (View.loadsAt_vmem h_S16))
  Prog.lift (.store ob (Rect.unit (s := S16384) (k0_off3 t) S16.size (k0_off3_inb t))
    (shapeCast S16 (addi r.2.2.1 (extui 32 (cmpf .ole r.2.2.2 r.2.1) natLt_1_32)) shapeCasts_S16_S16)
    Finset.univ (View.stores_vmem_bits_univ h_S16 rfl) (.inl rfl))
  pure 0#32

/-- The search loop: a chunk's 1024 groups of sixteen. -/
def scan (i : grid0.Coords) (xb : Memref sig .scVector .vmem S16384 .f32) (hxb : xb.IsWhole)
    (ob : Memref sig .scVector .vmem S16384 .i32) : TProg F i (BitVec 32) :=
  Scf.Loop.for k0_t1_loop k0_t1_ok 0#32 fun t _ => trip i xb hxb ob t

/-! ## The copies -/

/-- Start fetching the boundary table and wait for it. -/
def fetchTable (i : grid0.Coords) : TProg F i PUnit := do
  Prog.lift (.enqueueDma bA (.here bT) (.dma cc0_scoped0.sem) (Memref.isWhole_whole _).wordExact (Memref.isWhole_whole _).wordExact ⟨Or.inl rfl, trivial⟩)
  Prog.lift (.waitDma2 cc0_scoped0.sem bA bT (Memref.isWhole_whole _).wordExact (Memref.isWhole_whole _).wordExact)

/-- Start fetching chunk `g` into `xb`, completing on `s`. -/
def startIn (i : grid0.Coords) (xb : Memref sig .scVector .vmem S16384 .f32) (hxb : xb.IsWhole) (s : DmaSem sig) (g : Fin 32) : TProg F i PUnit :=
  Prog.lift (.enqueueDma (xC i g) (.here xb) (.dma s) (View.wordExact_bits rfl) hxb.wordExact ⟨Or.inl rfl, trivial⟩)

/-- Wait for chunk `g` to arrive in `xb`. -/
def waitIn (i : grid0.Coords) (xb : Memref sig .scVector .vmem S16384 .f32) (hxb : xb.IsWhole) (s : DmaSem sig) (g : Fin 32) : TProg F i PUnit :=
  Prog.lift (.waitDma2 s (xC i g) xb (View.wordExact_bits rfl) hxb.wordExact)

/-- Start writing `ob` out to chunk `g` of the result, completing on `s`. -/
def startOut (i : grid0.Coords) (ob : Memref sig .scVector .vmem S16384 .i32) (hob : ob.IsWhole) (s : DmaSem sig) (g : Fin 32) : TProg F i PUnit :=
  Prog.lift (.enqueueDma ob (.here (oC i g)) (.dma s) hob.wordExact (View.wordExact_bits rfl) ⟨Or.inl rfl, trivial⟩)

/-- Wait until `ob` has been written out to chunk `g`. -/
def waitOut (i : grid0.Coords) (ob : Memref sig .scVector .vmem S16384 .i32) (hob : ob.IsWhole) (s : DmaSem sig) (g : Fin 32) : TProg F i PUnit :=
  Prog.lift (.waitDma2 s ob (oC i g) hob.wordExact (View.wordExact_bits rfl))

/-! ## The whole task -/

/-- The steady state of one parity: chunk `g` has been asked for; search it, write it out, ask for chunk `g + 2`,
    after the write-out of chunk `g − 2` from the same buffer is over. -/
def stage (i : grid0.Coords) (xb : Memref sig .scVector .vmem S16384 .f32) (hxb : xb.IsWhole)
    (ob : Memref sig .scVector .vmem S16384 .i32) (hob : ob.IsWhole) (si so : DmaSem sig) (gp g gn : Fin 32) : TProg F i PUnit := do
  waitIn i xb hxb si g
  waitOut i ob hob so gp
  let _ ← scan i xb hxb ob
  startOut i ob hob so g
  startIn i xb hxb si gn

/-- The first chunk of a parity: nothing to wait for on the way out. -/
def stageFirst (i : grid0.Coords) (xb : Memref sig .scVector .vmem S16384 .f32) (hxb : xb.IsWhole)
    (ob : Memref sig .scVector .vmem S16384 .i32) (hob : ob.IsWhole) (si so : DmaSem sig) (g gn : Fin 32) : TProg F i PUnit := do
  waitIn i xb hxb si g
  let _ ← scan i xb hxb ob
  startOut i ob hob so g
  startIn i xb hxb si gn

/-- The last chunk of a parity: no further chunk to ask for. -/
def stageLast (i : grid0.Coords) (xb : Memref sig .scVector .vmem S16384 .f32) (hxb : xb.IsWhole)
    (ob : Memref sig .scVector .vmem S16384 .i32) (hob : ob.IsWhole) (si so : DmaSem sig) (gp g : Fin 32) : TProg F i PUnit := do
  waitIn i xb hxb si g
  waitOut i ob hob so gp
  let _ ← scan i xb hxb ob
  startOut i ob hob so g

/-- Chunk `2n + k`. -/
abbrev ch (n k : Nat) (h : 2 * n + k < 32 := by omega) : Fin 32 := ⟨2 * n + k, h⟩

/-- The steady state: chunks `2n + 2` and `2n + 3`. -/
def pair (i : grid0.Coords) (n : Nat) (h : n < 14) : TProg F i PUnit := do
  stage i x0 (Memref.isWhole_whole _) o0 (Memref.isWhole_whole _) cc0_scratch5.sem cc0_scratch7.sem (ch n 0) (ch n 2) (ch n 4)
  stage i x1 (Memref.isWhole_whole _) o1 (Memref.isWhole_whole _) cc0_scratch6.sem cc0_scratch8.sem (ch n 1) (ch n 3) (ch n 5)

/-- The first `n` rounds of the steady state. -/
def pairs (i : grid0.Coords) : (n : Nat) → n ≤ 14 → TProg F i PUnit
  | 0, _ => pure ⟨⟩
  | n + 1, h => pairs i n (Nat.le_of_succ_le h) >>= fun _ => pair i n h

/-- What a tile does. -/
def task (i : grid0.Coords) : TProg F i PUnit := do
  fetchTable i
  startIn i x0 (Memref.isWhole_whole _) cc0_scratch5.sem (ch 0 0)
  startIn i x1 (Memref.isWhole_whole _) cc0_scratch6.sem (ch 0 1)
  stageFirst i x0 (Memref.isWhole_whole _) o0 (Memref.isWhole_whole _) cc0_scratch5.sem cc0_scratch7.sem (ch 0 0) (ch 0 2)
  stageFirst i x1 (Memref.isWhole_whole _) o1 (Memref.isWhole_whole _) cc0_scratch6.sem cc0_scratch8.sem (ch 0 1) (ch 0 3)
  pairs i 14 (Nat.le_refl _)
  stageLast i x0 (Memref.isWhole_whole _) o0 (Memref.isWhole_whole _) cc0_scratch5.sem cc0_scratch7.sem (ch 14 0) (ch 14 2)
  stageLast i x1 (Memref.isWhole_whole _) o1 (Memref.isWhole_whole _) cc0_scratch6.sem cc0_scratch8.sem (ch 14 1) (ch 14 3)
  waitOut i o0 (Memref.isWhole_whole _) cc0_scratch7.sem (ch 14 2)
  waitOut i o1 (Memref.isWhole_whole _) cc0_scratch8.sem (ch 14 3)

/-- The printed kernel function, on the program's arrays and scratch, is `task`. -/
theorem body_eq (i : grid0.Coords) :
    cc0_body (F := F) i xA (Memref.isWhole_whole _) bA (Memref.isWhole_whole _) oA (Memref.isWhole_whole _) bT (Memref.isWhole_whole _)
      x0 (Memref.isWhole_whole _) x1 (Memref.isWhole_whole _) o0 (Memref.isWhole_whole _) o1 (Memref.isWhole_whole _)
      cc0_scratch5 cc0_scratch6 cc0_scratch7 cc0_scratch8 cc0_scoped0 = task i := by
  unfold cc0_body k0_part33 k0_part34 k0_part35 k0_part36 k0_part37 k0_part38 k0_part39 k0_part40 k0_part41 k0_part42 k0_part43 k0_part44
  simp only [bind_assoc, Prog.pure_eq_ret, Prog.bind_ret, Prog.bind_lift, Prog.bind_op]
  unfold task fetchTable
  simp only [pairs, pair, stage, stageFirst, stageLast, startIn, waitIn, startOut, waitOut, bind_assoc, Prog.pure_eq_ret, Prog.bind_ret, Prog.bind_lift, Prog.bind_op]
  rfl

end Cert.Proof.KernelIdeal

end
-- ==== Proof.KernelIdeal.Setup.lean ====
/-
  The setting of `KernelIdeal`'s proofs: the configuration the launch theorem runs, the resource algebra (the launch
  handshakes' rounds beside the counters of a tile's own copies), the thread of a tile, and its arrays and buffers as
  assertions. A tile holds its thirty-two chunks of the input and of the result outright, a read share of the boundary
  table, and its five buffers.
-/
module

public import proofs.«01_k».proof.Proof.Search
public import proofs.«01_k».proof.Proof.KernelIdeal.Program
public import Idealize.ShloMosaic.Lib.SparseCore.Quiescent
public import Idealize.ShloMosaic.Lib.SparseCore.Ops
public import Idealize.ShloMosaic.Lib.StableHlo.Run
public import Idealize.ShloMosaic.Lib.Transfers
public import Idealize.ShloMosaic.Lib.Pipeline.Kit
public import Idealize.ShloMosaic.Lib.Writes
public import Idealize.ShloMosaic.Lib.Tactic

@[expose] public section

set_option maxRecDepth 16384

noncomputable section

namespace Cert.Proof.KernelIdeal

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.Search

variable {F : FTy → Type}

/-! ## The program as the launch theorem sees it -/

/-- The labels of the program. -/
abbrev ΛP : Labels := Pipeline.Sig Λ₀ (Fin 0) fun p => (pcfgs (F := F) p).Adm
/-- The launch's configuration. -/
abbrev K : SparseCore.Cfg τ sig (ΛP (F := F)) 1 := sc (F := F)
/-- What each label runs. -/
abbrev D [FloatOps F] : Defs nD τ sig (Elt F) (ΛP (F := F)) := Pipeline.defs pcfgs defs₀
/-- No measure of termination is used: none for the labels of the program, none once those of the handshakes are added, and the one value that leaves. -/
abbrev 𝒱₀ : Variants := Variants.none
@[inherit_doc 𝒱₀] abbrev 𝒱 : Variants := 𝒱₀.lift
@[inherit_doc 𝒱₀] abbrev v₀ : 𝒱.V := Sum.inl none

/-- The side conditions of the launch's configuration hold. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

/-- The launch handshakes' rounds, -/
abbrev UH : Type := URounds (GSem nD τ sig) ℕ
/-- beside the counters of the tiles' copies. -/
abbrev UU : Type := UH × Counters

local notation "𝕄" => MT nD τ sig (HIx 1) (Elt F) ℕ UU ℕ

/-- Where the handshakes' ghost state lies. -/
abbrev EH : Emb UH (MT nD τ sig (HIx 1) (Elt F) ℕ UU ℕ) := embL
/-- Where the copies' counters live. -/
abbrev EC : UEmb Counters (MT nD τ sig (HIx 1) (Elt F) ℕ UU ℕ) := countersEmb

/-! ## A tile -/

/-- A tile's coordinates: its SparseCore and its number in it. -/
def coordsV (c : Fin (grid0.bound 0)) (s : Fin (grid0.bound 1)) : grid0.Coords :=
  fun | 0 => c | 1 => s | ⟨_ + 2, h⟩ => absurd h (Nat.not_lt.2 (Nat.le_add_left _ _))

/-- The thread of tile `i` of device `d`. -/
abbrev thr (d : Dev nD) (i : grid0.Coords) : Thread nD τ := V d ((i 0).castLE hcore0) ((i 1).castLE hsub0)

variable (d : Dev nD) (i : grid0.Coords)

/-- Holding a tile's memref whole: share `q` of every element of its buffer, at contents `f`. -/
abbrev holds {sp : Space} {s : Shape} {e : EltTy} (mr : Memref sig .scVector sp s e) (q : PosShare TreeShare) (f : Buf (Elt F) (mr.view.loc (thr d i))) : sProp 𝕄 :=
  mr.view.loc (thr d i) ↦[Finset.univ]{q} f

/-- Holding a slice a tile's copy moves: every element of the slice outright. -/
abbrev holdsOn {sp : Space} {s : Shape} {e : EltTy} (mr : Memref sig .scVector sp s e) (f : Buf (Elt F) (mr.view.loc (thr d i))) : sProp 𝕄 :=
  mr.view.loc (thr d i) ↦[mr.view.set]{fullShare} f

/-! ## Programs in sequence -/

variable [FloatOps F]

/-- The weakest precondition of a tile's program. -/
abbrev runs {α : Type} (p : TProg F i α) (Q : α → sProp 𝕄) : sProp 𝕄 :=
  wp frame (wpE (defs₀ (F := F)) 𝒱₀ (thr d i) none) Set.univ p Q

/-- A program that is done. -/
theorem runs_ret {α : Type} {a : α} {Q : α → sProp 𝕄} : Q a ⊢ runs d i (.ret a) Q := le_wp_ret _ _ _ a Q

/-- A program followed by another: what the first leaves is what the second starts from. -/
theorem runs_then {α β : Type} {A : sProp 𝕄} {p : TProg F i α} {B : α → sProp 𝕄} (h : A ⊢ runs d i p B) {k : α → TProg F i β} {Q : β → sProp 𝕄} :
    A ⊢ iprop((∀ a, B a -∗ runs d i (k a) Q) -∗ runs d i (p >>= k) Q) := by
  unfold runs
  rw [wp_bind]
  iintro HA HK
  iapply (wp_wand_r frame (wpE (defs₀ (F := F)) 𝒱₀ (thr d i) none) Set.univ)
  isplitl [HA]
  · iapply h $$ HA
  · iexact HK

end Cert.Proof.KernelIdeal

end
-- ==== Proof.KernelIdeal.Trip.lean ====
/-
  One trip of the search loop, and the loop, at a tile of `KernelIdeal`.

  A trip loads sixteen values of the chunk, finds each one's place in the tile's table by six gathers, and stores the
  sixteen counts. `wp_trip` says what it leaves; `wp_scan` runs the loop with the invariant that the first `16 k` entries
  of the output buffer hold the counts of the first `16 k` values.
-/
module

public import proofs.«01_k».proof.Proof.KernelIdeal.Setup
public import Idealize.ShloMosaic.Lib.Pointwise.Reshape

@[expose] public section

set_option maxRecDepth 16384

noncomputable section

namespace Cert.Proof.KernelIdeal

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Cert.Proof.Search

variable {F : FTy → Type} [FloatOps F]

local notation "𝕄" => MT nD τ sig (HIx 1) (Elt F) ℕ UU ℕ

variable (d : Dev nD) (i : grid0.Coords)

/-- Reading the table whole gives its contents. -/
theorem read_table (fb : Buf (Elt F) (bT.view.loc (thr d i))) : ((bT).access (.whole S32)).read (Elt F) fb = fb := by
  funext x
  exact congrArg fb (Rect.emb_whole_apply S32 x)

/-- A gather from the tile's table, with the check before it: words inside the table pass, and the program goes on with
    the entries they name. -/
theorem wp_gather {α : Type} {Q : α → sProp 𝕄} {q : PosShare TreeShare} {fb : Buf (Elt F) (bT.view.loc (thr d i))} {v : IVec S16 32}
    {C : Prop} {hd : Decidable C} {hC : C → ∀ a x, ((![v] : Fin 1 → IVec S16 32) a x).toNat < S32.size a} {hl : (bT).view.Loads}
    {k : Vec F S16 .f32 → TProg F i α} (hc : C) :
    holds d i bT q fb
      ⊢ iprop((holds d i bT q fb -∗ runs d i (k fun x => fb (entry (v x))) Q)
        -∗ runs d i
            (.op (.assume C hd) fun h => SparseCore.vectorLoadIdx bT ![v] (hC h.down) hl >>= k) Q) := by
  unfold runs
  rw [wp_assume_of _ _ _ _ hc]
  have e : loadIdx (F := F) (e := .f32) (((bT).access (.whole S32)).read (Elt F) fb) ![v] (hC hc) = fun x => fb (entry (v x)) := by
    rw [read_table]; exact loadIdx_entry (F := F) fb v (hC hc)
  have := SparseCore.wp_vectorLoadIdx (defs := defs₀ (F := F)) (Q := Q) (k := k) (h := hC hc) (hl := hl) 𝒱₀ (thr d i) none Set.univ (base := bT) (S := Finset.univ) (q := q) (f := fb)
    (Finset.subset_univ _)
  rw [e] at this
  exact this

/-- One comparison of the search over sixteen lanes is the comparison of each lane. -/
theorem select_halve (fb : FVec F TabS .f32) (xs : FVec F S16 .f32) (lo lo' : IVec S16 32) (d w : BitVec 32)
    (h : lo' = fun l => halve fb (xs l) (lo l) d w) :
    select (cmpf .ole (fun l => fb (entry (addi lo (broadcast S16 d) l))) xs) (addi lo (broadcast S16 w)) lo = lo' := by
  rw [h]; rfl

set_option maxHeartbeats 2000000 in
/-- The first part of a trip: sixteen values loaded, their lower ends found, and the table's entries there; adding the
    last comparison gives the counts. -/
theorem wp_search (xb : Memref sig .scVector .vmem S16384 .f32) (hxb : xb.IsWhole) (t : Fin k0_t1_loop.trips)
    (fx : Buf (Elt F) (xb.view.loc (thr d i))) (fb : Buf (Elt F) (bT.view.loc (thr d i))) (qb : PosShare TreeShare) :
    iprop(holds d i xb fullShare fx ∗ holds d i bT qb fb)
      ⊢ runs d i
          (k0_part1 (F := F) i xA (Memref.isWhole_whole _) bA (Memref.isWhole_whole _) oA (Memref.isWhole_whole _) bT (Memref.isWhole_whole _)
            xb hxb x1 (Memref.isWhole_whole _) o0 (Memref.isWhole_whole _) o1 (Memref.isWhole_whole _)
            cc0_scratch5 cc0_scratch6 cc0_scratch7 cc0_scratch8 cc0_scoped0 0#32 1#32 t)
          fun r => iprop(holds d i xb fullShare fx ∗ holds d i bT qb fb
            ∗ ⌜addi r.2.2.1 (extui 32 (cmpf .ole r.2.2.2 r.2.1) natLt_1_32)
                = fun l => count (F := F) fb (xb.view.readAt (Elt F) (Rect.unit (s := S16384) (k0_off2 t) S16.size (k0_off2_inb t)).toLoadRect fx l)⌝) := by
  unfold k0_part1
  simp only [Prog.pure_eq_ret, Prog.bind_lift, Prog.bind_op, Prog.bind_ret]
  iintro ⟨Hx, Hb⟩
  iapply (wp_load 𝒱₀ (thr d i) none Set.univ (m := xb) (S := Finset.univ) (Finset.subset_univ _)) $$ Hx
  iintro Hx
  generalize hxs : shapeCast S16 (xb.view.readAt (Elt F) (Rect.unit (s := S16384) (k0_off2 t) S16.size (k0_off2_inb t)).toLoadRect fx) shapeCasts_S16_S16 = xs
  iapply (wp_gather d i (v := addi (broadcast S16 0#32) (broadcast S16 15#32)) (C := k0_chk1 (addi (broadcast S16 0#32) (broadcast S16 15#32)))
    (chk fun _ => probe_lt (lo := 0#32) (n := 0) 15#32 (Nat.le_refl _) (by decide))) $$ Hb
  iintro Hb
  rw [select_halve fb xs (broadcast S16 0#32) (fun l => lo1 fb (xs l)) 15#32 16#32 rfl]
  iapply (wp_gather d i (v := addi (fun l => lo1 fb (xs l)) (broadcast S16 7#32)) (C := k0_chk2 (addi (fun l => lo1 fb (xs l)) (broadcast S16 7#32)))
    (chk fun l => probe_lt 7#32 (lo1_le fb (xs l)) (by decide))) $$ Hb
  iintro Hb
  rw [select_halve fb xs (fun l => lo1 fb (xs l)) (fun l => lo2 fb (xs l)) 7#32 8#32 rfl]
  iapply (wp_gather d i (v := addi (fun l => lo2 fb (xs l)) (broadcast S16 3#32)) (C := k0_chk3 (addi (fun l => lo2 fb (xs l)) (broadcast S16 3#32)))
    (chk fun l => probe_lt 3#32 (lo2_le fb (xs l)) (by decide))) $$ Hb
  iintro Hb
  rw [select_halve fb xs (fun l => lo2 fb (xs l)) (fun l => lo3 fb (xs l)) 3#32 4#32 rfl]
  iapply (wp_gather d i (v := addi (fun l => lo3 fb (xs l)) (broadcast S16 1#32)) (C := k0_chk4 (addi (fun l => lo3 fb (xs l)) (broadcast S16 1#32)))
    (chk fun l => probe_lt 1#32 (lo3_le fb (xs l)) (by decide))) $$ Hb
  iintro Hb
  rw [select_halve fb xs (fun l => lo3 fb (xs l)) (fun l => lo4 fb (xs l)) 1#32 2#32 rfl]
  iapply (wp_gather d i (v := addi (fun l => lo4 fb (xs l)) (broadcast S16 0#32)) (C := k0_chk5 (addi (fun l => lo4 fb (xs l)) (broadcast S16 0#32)))
    (chk fun l => probe_lt 0#32 (lo4_le fb (xs l)) (by decide))) $$ Hb
  iintro Hb
  rw [select_halve fb xs (fun l => lo4 fb (xs l)) (fun l => slot fb (xs l)) 0#32 1#32 rfl]
  iapply (wp_gather d i (v := fun l => slot fb (xs l)) (C := k0_chk6 fun l => slot fb (xs l))
    (chk fun l => Nat.lt_succ_of_le (slot_le fb (xs l)))) $$ Hb
  iintro Hb
  iapply (runs_ret d i)
  isplitl [Hx]; · iexact Hx
  isplitl [Hb]; · iexact Hb
  ipureintro
  have hxs' : xb.view.readAt (Elt F) (Rect.unit (s := S16384) (k0_off2 t) S16.size (k0_off2_inb t)).toLoadRect fx = xs := by
    rw [← hxs]; exact (shapeCast_id _ _).symm
  rw [hxs']
  rfl

/-- The first `n` entries of an output buffer hold the counts of the first `n` values of an input buffer. -/
def Counted (xb : Memref sig .scVector .vmem S16384 .f32) (ob : Memref sig .scVector .vmem S16384 .i32) (fb : Buf (Elt F) (bT.view.loc (thr d i)))
    (fx : Buf (Elt F) (xb.view.loc (thr d i))) (n : ℕ) (f : Buf (Elt F) (ob.view.loc (thr d i))) : Prop :=
  ∀ y : S16384.Idx, (y 0).val < n → ob.view.read (Elt F) f y = count (F := F) fb (xb.view.read (Elt F) fx y)

/-- Storing the counts of the sixteen values a trip loaded counts sixteen more values. -/
theorem Counted.step {xb : Memref sig .scVector .vmem S16384 .f32} {ob : Memref sig .scVector .vmem S16384 .i32} {fb : Buf (Elt F) (bT.view.loc (thr d i))}
    {fx : Buf (Elt F) (xb.view.loc (thr d i))} {f : Buf (Elt F) (ob.view.loc (thr d i))} {t : Fin k0_t1_loop.trips} (h : Counted d i xb ob fb fx (16 * t.val) f) :
    Counted d i xb ob fb fx (16 * (t.val + 1))
      ((ob.access (Rect.unit (s := S16384) (k0_off3 t) S16.size (k0_off3_inb t))).write (Elt F) f
        (fun l => count (F := F) fb (xb.view.readAt (Elt F) (Rect.unit (s := S16384) (k0_off2 t) S16.size (k0_off2_inb t)).toLoadRect fx l)) Finset.univ) := by
  intro y hy
  by_cases hm : y ∈ (Rect.unit (s := S16384) (k0_off3 t) S16.size (k0_off3_inb t)).set
  · obtain ⟨l, rfl⟩ := LoadRect.exists_idx_of_mem _ hm
    refine (View.read_slice_write_emb (v := ob.view) (Rect.unit (s := S16384) (k0_off3 t) S16.size (k0_off3_inb t)) f _ (Finset.mem_univ l)).trans ?_
    refine congrArg (count (F := F) fb) (congrArg (xb.view.read (Elt F) fx) (funext fun a => Fin.ext ?_))
    simp only [LoadRect.idx_apply, Rect.off_unit, Rect.stride_unit, k0_off2_eq, k0_off3_eq]
  · refine (View.read_slice_write_of_not_mem (v := ob.view) (Rect.unit (s := S16384) (k0_off3 t) S16.size (k0_off3_inb t)) f _ Finset.univ
      (by rw [Rect.map_emb_univ]; exact hm)).trans (h y ?_)
    by_contra hlo
    refine hm (Rect.mem_set_unit.mpr fun a => ?_)
    fin_cases a
    simp only [k0_off3_eq]
    change 16 * t.val ≤ (y 0).val ∧ (y 0).val < 16 * t.val + 16
    omega

/-- What a tile holds as the search loop runs: the chunk's values, the table, and an output buffer counted so far. -/
abbrev Searching (xb : Memref sig .scVector .vmem S16384 .f32) (ob : Memref sig .scVector .vmem S16384 .i32) (fx : Buf (Elt F) (xb.view.loc (thr d i)))
    (fb : Buf (Elt F) (bT.view.loc (thr d i))) (n : ℕ) : sProp 𝕄 :=
  iprop(holds d i xb fullShare fx ∗ holds d i bT fullShare fb ∗ ∃ f, holds d i ob fullShare f ∗ ⌜Counted d i xb ob fb fx n f⌝)

/-- One trip counts sixteen more values. -/
theorem wp_trip (xb : Memref sig .scVector .vmem S16384 .f32) (hxb : xb.IsWhole) (ob : Memref sig .scVector .vmem S16384 .i32)
    (t : Fin k0_t1_loop.trips) (fx : Buf (Elt F) (xb.view.loc (thr d i))) (fb : Buf (Elt F) (bT.view.loc (thr d i))) :
    Searching d i xb ob fx fb (16 * t.val)
      ⊢ runs d i (trip i xb hxb ob t) fun _ => Searching d i xb ob fx fb (16 * (t.val + 1)) := by
  unfold trip
  iintro ⟨Hx, Hb, %f, Ho, %hf⟩
  iapply (runs_then d i (wp_search d i xb hxb t fx fb fullShare)) $$ [Hx Hb]
  · isplitl [Hx] <;> iassumption
  iintro %r ⟨Hx, Hb, %hr⟩
  simp only [Prog.pure_eq_ret, Prog.bind_lift, Prog.bind_op, Prog.bind_ret]
  iapply (wp_load 𝒱₀ (thr d i) none Set.univ (m := ob) (S := Finset.univ) (Finset.subset_univ _)) $$ Ho
  iintro Ho
  iapply (wp_store 𝒱₀ (thr d i) none Set.univ (m := ob) (r := Rect.unit (s := S16384) (k0_off3 t) S16.size (k0_off3_inb t)) (S := Finset.univ) (f := f)
    (Finset.subset_univ _)) $$ Ho
  iintro Ho
  iapply (runs_ret d i)
  isplitl [Hx]; · iexact Hx
  isplitl [Hb]; · iexact Hb
  iexists _
  isplitl [Ho]; · iexact Ho
  ipureintro
  rw [shapeCast_id, hr]
  exact hf.step

/-- The search loop counts a chunk's 16384 values. -/
theorem wp_scan (xb : Memref sig .scVector .vmem S16384 .f32) (hxb : xb.IsWhole) (ob : Memref sig .scVector .vmem S16384 .i32)
    (fx : Buf (Elt F) (xb.view.loc (thr d i))) (fb : Buf (Elt F) (bT.view.loc (thr d i))) :
    iprop(holds d i xb fullShare fx ∗ holds d i bT fullShare fb ∗ ∃ f, holds d i ob fullShare f)
      ⊢ runs d i (scan i xb hxb ob) fun _ => Searching d i xb ob fx fb 16384 := by
  have ht : k0_t1_loop.trips = 1024 := by decide
  iintro ⟨Hx, Hb, %f, Ho⟩
  unfold scan runs
  iapply (Scf.wp_for frame _ _ _ _ _ k0_t1_ok 0#32 (fun t _ => trip i xb hxb ob t) (fun k _ => Searching d i xb ob fx fb (16 * k))
    (fun t _ => wp_trip d i xb hxb ob t fx fb))
  isplitl [Hx Hb Ho]
  · isplitl [Hx]; · iexact Hx
    isplitl [Hb]; · iexact Hb
    iexists f
    isplitl [Ho]; · iexact Ho
    ipureintro
    intro y hy
    exact absurd hy (Nat.not_lt_zero _)
  · iintro %acc H
    rw [show Scf.trips k0_t1_loop.lb k0_t1_loop.ub k0_t1_loop.st = 1024 from ht]
    iexact H

end Cert.Proof.KernelIdeal

end
-- ==== Proof.KernelIdeal.Copies.lean ====
/-
  A tile's copies at `KernelIdeal`: fetching a chunk of the input and sending a chunk of the result, each as a copy started now
  and waited for later.

  A copy in flight is an assertion: on its semaphore, what it will hand back when waited for (`ComingIn`, `GoingOut`). The
  chunks not in flight are in a `Pool`: chunks below `lo` are done, chunks from `lo` up to `hi` are in flight, and the rest
  are untouched. Starting a copy takes chunk `hi` out of the pool, and waiting for it puts chunk `lo` back.
-/
module

public import proofs.«01_k».proof.Proof.KernelIdeal.Trip

@[expose] public section

set_option maxRecDepth 16384

noncomputable section

namespace Cert.Proof.KernelIdeal

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Cert.Proof.Search

variable {F : FTy → Type} [FloatOps F]

local notation "𝕄" => MT nD τ sig (HIx 1) (Elt F) ℕ UU ℕ

variable (d : Dev nD) (i : grid0.Coords)

/-! ## The pool of chunks -/

/-- The chunks a tile holds: `A` of those below `lo`, nothing of those from `lo` up to `hi`, `B` of the rest. -/
def Pool (A B : Fin 32 → sProp 𝕄) (lo hi : ℕ) : sProp 𝕄 :=
  bigSep Finset.univ fun g : Fin 32 => if g.val < lo then A g else if g.val < hi then iprop(emp) else B g

/-- Taking the first untouched chunk. -/
theorem Pool.take (A B : Fin 32 → sProp 𝕄) {lo : ℕ} (g : Fin 32) (h : lo ≤ g.val) : Pool A B lo g.val ⊢ iprop(B g ∗ Pool A B lo (g.val + 1)) := by
  unfold Pool
  refine (bigSep_univ_update (Ψ := fun j : Fin 32 => if j.val < lo then A j else if j.val < g.val + 1 then iprop(emp) else B j) g fun j hj => ?_).trans ?_
  · have : j.val ≠ g.val := fun e => hj (Fin.ext e)
    simp only [show (j.val < g.val + 1) = (j.val < g.val) from propext (by omega)]
  · simp only [if_neg (Nat.not_lt.2 h), Nat.lt_irrefl, if_false, Nat.lt_succ_self, if_true]
    iintro ⟨HB, HK⟩
    isplitl [HB]; · iexact HB
    iapply HK
    iempintro

/-- Putting back the first chunk in flight, done. -/
theorem Pool.put (A B : Fin 32 → sProp 𝕄) {hi : ℕ} (g : Fin 32) (h : g.val < hi) : iprop(A g ∗ Pool A B g.val hi) ⊢ Pool A B (g.val + 1) hi := by
  unfold Pool
  iintro ⟨HA, HP⟩
  ihave HP := (bigSep_univ_update (Ψ := fun j : Fin 32 => if j.val < g.val + 1 then A j else if j.val < hi then iprop(emp) else B j) g fun j hj => by
    have : j.val ≠ g.val := fun e => hj (Fin.ext e)
    simp only [show (j.val < g.val + 1) = (j.val < g.val) from propext (by omega)]) $$ HP
  icases HP with ⟨-, HK⟩
  iapply HK
  simp only [Nat.lt_succ_self, if_true]
  iexact HA

/-- Before anything has started, and once everything is done. -/
theorem Pool.start (A B : Fin 32 → sProp 𝕄) : Pool A B 0 0 = bigSep Finset.univ B := by
  unfold Pool
  exact bigSep_congr fun g _ => by simp
@[inherit_doc Pool.start] theorem Pool.done (A B : Fin 32 → sProp 𝕄) : Pool A B 32 32 = bigSep Finset.univ A := by
  unfold Pool
  exact bigSep_congr fun g _ => by simp [g.isLt]

/-! ## What is in flight -/

variable (X : Buf (Elt F) (xA.view.loc (thr d i))) (B : Buf (Elt F) (bA.view.loc (thr d i))) (Y : Buf (Elt F) (oA.view.loc (thr d i)))

/-- The result the kernel computes: at each index, the count of the value there. -/
def result : Buf (Elt F) (oA.view.loc (thr d i)) := fun j => count (F := F) B (X j)

/-- Chunk `g` of the input, and of the result at contents `f`. -/
abbrev XIn (g : Fin 32) : sProp 𝕄 := holdsOn d i (xC i g) X
@[inherit_doc XIn] abbrev OOut (f : Buf (Elt F) (oA.view.loc (thr d i))) (g : Fin 32) : sProp 𝕄 := holdsOn d i (oC i g) f

/-- What fetching chunk `g` hands back: the buffer holding the chunk's values, and the chunk. -/
abbrev Fetched (xb : Memref sig .scVector .vmem S16384 .f32) (g : Fin 32) : sProp 𝕄 :=
  iprop((∃ f, holds d i xb fullShare f ∗ ⌜xb.view.read (Elt F) f = (xC i g).view.read (Elt F) X⌝) ∗ XIn d i X g)

/-- What sending chunk `g` hands back: the chunk of the result, counted, and the buffer. -/
abbrev Sent (ob : Memref sig .scVector .vmem S16384 .i32) (g : Fin 32) : sProp 𝕄 :=
  iprop(OOut d i (result d i X B) g ∗ ∃ f, holds d i ob fullShare f)

/-- Chunk `g` on its way into `xb`. -/
abbrev ComingIn (xb : Memref sig .scVector .vmem S16384 .f32) (s : DmaSem sig) (g : Fin 32) : sProp 𝕄 :=
  Transfers.Flight EC (thr d i) (.dma s) none xb.view.dmaCredit (Fetched d i X xb g)

/-- Chunk `g` on its way out of `ob`. -/
abbrev GoingOut (ob : Memref sig .scVector .vmem S16384 .i32) (s : DmaSem sig) (g : Fin 32) : sProp 𝕄 :=
  Transfers.Flight EC (thr d i) (.dma s) none (oC i g).view.dmaCredit (Sent d i X B ob g)

/-- A semaphore nothing is in flight on. -/
abbrev idle (s : DmaSem sig) : sProp 𝕄 := semVal (thr d i, .dma s) 0

variable (O : CellTallies nD τ sig (HIx 1)) (W : Waits sig (HIx 1))

/-- What the tile owes the launch, whatever copies it has waited for since. -/
abbrev Owing : sProp 𝕄 := iprop(∃ W', ⌜∀ p ∈ W', p ∈ W ∨ p.2 = none⌝ ∗ owes (thr d i) O W')

/-- One more wait on a copy's semaphore is one the launch does not count. -/
theorem waited {W W' : Waits sig (HIx 1)} {sm : SemLoc sig} (h : ∀ p ∈ W', p ∈ W ∨ p.2 = none) : ∀ p ∈ insert (sm, (none : HIx 1)) W', p ∈ W ∨ p.2 = none := by
  intro p hp
  rcases Finset.mem_insert.mp hp with e | hp
  · exact .inr (by rw [e])
  · exact h p hp

/-- Every wait of the tile on its own copies is allowed under what it owes. -/
abbrev Allowed : sProp 𝕄 := Transfers.MayWaits (thr d i) (none : HIx 1) O

/-! ## The four statements -/

/-- Starting to fetch chunk `g`. -/
theorem wp_startIn (xb : Memref sig .scVector .vmem S16384 .f32) (hxb : xb.IsWhole) (s : DmaSem sig) (g : Fin 32) :
    iprop(XIn d i X g ∗ (∃ f, holds d i xb fullShare f) ∗ idle d i s) ⊢ runs d i (startIn i xb hxb s g) fun _ => ComingIn d i X xb s g := by
  unfold startIn runs
  iintro ⟨HX, ⟨%f, Hx⟩, Hs⟩
  iapply (Transfers.wp_dmaLocal EC 𝒱₀ (thr d i) none (src := xC i g) (dst := xb) (sm := .dma s) (q := fullShare) (Sd := Finset.univ) (none : HIx 1)
    xb.view.dmaCredit rfl (View.dmaCredit_pos _ (by decide)) (Finset.subset_univ _)) $$ [HX Hx Hs]
  · isplitl [HX]; · iexact HX
    isplitl [Hx] <;> iassumption
  iintro HF
  iapply (runs_ret d i)
  iapply (Transfers.Flight_mono EC (thr d i) ?_) $$ HF
  iintro ⟨Hx, HX⟩
  isplitl [Hx]
  · iexists _
    isplitl [Hx]; · iexact Hx
    ipureintro
    exact View.read_write_univ _ _
  · iexact HX

/-- Waiting for chunk `g` to arrive. -/
theorem wp_waitIn (xb : Memref sig .scVector .vmem S16384 .f32) (hxb : xb.IsWhole) (s : DmaSem sig) (g : Fin 32) :
    iprop(ComingIn d i X xb s g ∗ Owing d i O W ∗ Allowed d i O)
      ⊢ runs d i (waitIn i xb hxb s g) fun _ => iprop(Fetched d i X xb g ∗ idle d i s ∗ Owing d i O W) := by
  unfold waitIn runs
  iintro ⟨HF, ⟨%W', %hW, HO⟩, #Hmw⟩
  iapply (Transfers.wp_waitLocalO EC 𝒱₀ (thr d i) none (none : HIx 1) rfl) $$ [HF HO]
  · isplitl [HF]; · iexact HF
    isplitl [HO]; · iexact HO
    iapply (Transfers.MayWaits.elim (.dma s)) $$ Hmw
  iintro ⟨HD, Hs, HO⟩
  iapply (runs_ret d i)
  isplitl [HD]; · iexact HD
  isplitl [Hs]; · iexact Hs
  iexists insert (SemLoc.dma s, (none : HIx 1)) W'
  isplitr [HO]
  · ipureintro; exact waited hW
  · iexact HO

/-- A counted buffer written over chunk `g` leaves the result there. -/
theorem write_counted {xb : Memref sig .scVector .vmem S16384 .f32} {ob : Memref sig .scVector .vmem S16384 .i32} {g : Fin 32}
    {fx : Buf (Elt F) (xb.view.loc (thr d i))} (hfx : xb.view.read (Elt F) fx = (xC i g).view.read (Elt F) X) {f : Buf (Elt F) (ob.view.loc (thr d i))}
    (hf : Counted d i xb ob B fx 16384 f) :
    ∀ j ∈ (oC i g).view.set, (oC i g).view.write (Elt F) Y (ob.view.read (Elt F) f) Finset.univ j = result d i X B j := by
  intro j hj
  obtain ⟨y, -, rfl⟩ := Finset.mem_map.mp hj
  refine (View.write_emb_of_mem (v := (oC i g).view) Y (ob.view.read (Elt F) f) (Finset.mem_univ y)).trans ?_
  rw [hf y (y 0).isLt, hfx]
  rfl

/-- Starting to send chunk `g`, all of it counted. -/
theorem wp_startOut (xb : Memref sig .scVector .vmem S16384 .f32) (ob : Memref sig .scVector .vmem S16384 .i32) (hob : ob.IsWhole) (s : DmaSem sig) (g : Fin 32)
    (fx : Buf (Elt F) (xb.view.loc (thr d i))) (hfx : xb.view.read (Elt F) fx = (xC i g).view.read (Elt F) X) :
    iprop((∃ f, holds d i ob fullShare f ∗ ⌜Counted d i xb ob B fx 16384 f⌝) ∗ OOut d i Y g ∗ idle d i s)
      ⊢ runs d i (startOut i ob hob s g) fun _ => GoingOut d i X B ob s g := by
  unfold startOut runs
  iintro ⟨⟨%f, Ho, %hf⟩, HO, Hs⟩
  iapply (Transfers.wp_dmaLocal EC 𝒱₀ (thr d i) none (src := ob) (dst := oC i g) (sm := .dma s) (q := fullShare) (fs := f) (Sd := (oC i g).view.set) (none : HIx 1)
    (oC i g).view.dmaCredit rfl (View.dmaCredit_pos _ (by decide)) subset_rfl) $$ [HO Ho Hs]
  · rw [hob.set_eq_univ]
    isplitl [Ho]; · iexact Ho
    isplitl [HO] <;> iassumption
  iintro HF
  iapply (runs_ret d i)
  iapply (Transfers.Flight_mono EC (thr d i) ?_) $$ HF
  rw [hob.set_eq_univ]
  iintro ⟨HO, Ho⟩
  isplitl [HO]
  · iapply (Entails.of_eq (pointsTo_congr (write_counted d i X B Y hfx hf))) $$ HO
  · iexists _; iexact Ho

/-- Waiting for chunk `g` to be sent. -/
theorem wp_waitOut (ob : Memref sig .scVector .vmem S16384 .i32) (hob : ob.IsWhole) (s : DmaSem sig) (g : Fin 32) :
    iprop(GoingOut d i X B ob s g ∗ Owing d i O W ∗ Allowed d i O)
      ⊢ runs d i (waitOut i ob hob s g) fun _ => iprop(Sent d i X B ob g ∗ idle d i s ∗ Owing d i O W) := by
  unfold waitOut runs
  iintro ⟨HF, ⟨%W', %hW, HO⟩, #Hmw⟩
  iapply (Transfers.wp_waitLocalO EC 𝒱₀ (thr d i) none (none : HIx 1) rfl) $$ [HF HO]
  · isplitl [HF]; · iexact HF
    isplitl [HO]; · iexact HO
    iapply (Transfers.MayWaits.elim (.dma s)) $$ Hmw
  iintro ⟨HD, Hs, HO⟩
  iapply (runs_ret d i)
  isplitl [HD]; · iexact HD
  isplitl [Hs]; · iexact Hs
  iexists insert (SemLoc.dma s, (none : HIx 1)) W'
  isplitr [HO]
  · ipureintro; exact waited hW
  · iexact HO

end Cert.Proof.KernelIdeal

end
-- ==== Proof.KernelIdeal.Task.lean ====
/-
  A tile's task at `KernelIdeal`, by its stages: fetch the table, start the first two chunks, then for each chunk wait for it,
  count it, send it and start the chunk after next, each parity with its own pair of buffers. `Between g` is what a tile
  holds between the stages: chunks `g` and `g + 1` on their way in, chunks `g - 2` and `g - 1` on their way out. The task
  leaves every chunk of the result counted (`wp_task`).
-/
module

public import proofs.«01_k».proof.Proof.KernelIdeal.Copies

@[expose] public section

set_option maxRecDepth 16384

noncomputable section

namespace Cert.Proof.KernelIdeal

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Cert.Proof.Search

variable {F : FTy → Type} [FloatOps F]

local notation "𝕄" => MT nD τ sig (HIx 1) (Elt F) ℕ UU ℕ

variable (d : Dev nD) (i : grid0.Coords)

variable (X : Buf (Elt F) (xA.view.loc (thr d i))) (B : Buf (Elt F) (bA.view.loc (thr d i))) (Y : Buf (Elt F) (oA.view.loc (thr d i)))
variable (O : CellTallies nD τ sig (HIx 1)) (W : Waits sig (HIx 1))

/-- The tile's chunks of the input, those from `lo` up to `hi` in flight. -/
abbrev XPool (lo hi : ℕ) : sProp 𝕄 := Pool (XIn d i X) (XIn d i X) lo hi

/-- The tile's chunks of the result: counted below `lo`, untouched from `hi` on. -/
abbrev OPool (lo hi : ℕ) : sProp 𝕄 := Pool (OOut d i (result d i X B)) (OOut d i Y) lo hi

/-- What every stage keeps: the tile's table, and what it owes. -/
abbrev Kept : sProp 𝕄 := iprop(holds d i bT fullShare B ∗ Owing d i O W)

/-! ## One stage -/

/-- Waiting for chunk `g` and counting it. -/
theorem wp_fill (xb : Memref sig .scVector .vmem S16384 .f32) (hxb : xb.IsWhole) (ob : Memref sig .scVector .vmem S16384 .i32) (hob : ob.IsWhole)
    (so : DmaSem sig) (g : Fin 32) {lo : ℕ} (hlo : lo ≤ g.val) (fx : Buf (Elt F) (xb.view.loc (thr d i)))
    (hfx : xb.view.read (Elt F) fx = (xC i g).view.read (Elt F) X) :
    iprop(holds d i xb fullShare fx ∗ holds d i bT fullShare B ∗ (∃ f, holds d i ob fullShare f) ∗ idle d i so ∗ OPool d i X B Y lo g.val)
      ⊢ runs d i (scan i xb hxb ob >>= fun _ => startOut i ob hob so g) fun _ =>
          iprop(holds d i xb fullShare fx ∗ holds d i bT fullShare B ∗ GoingOut d i X B ob so g ∗ OPool d i X B Y lo (g.val + 1)) := by
  iintro ⟨Hx, Hb, Ho, Hs, HP⟩
  iapply (runs_then d i (wp_scan d i xb hxb ob fx B)) $$ [Hx Hb Ho]
  · isplitl [Hx]; · iexact Hx
    isplitl [Hb] <;> iassumption
  iintro %_ ⟨Hx, Hb, Ho⟩
  ihave HP := (Pool.take _ _ g hlo) $$ HP
  icases HP with ⟨HO, HP⟩
  iapply (wp_wand_r frame (wpE (defs₀ (F := F)) 𝒱₀ (thr d i) none) Set.univ)
  isplitl [Ho HO Hs]
  · iapply (wp_startOut d i X B Y xb ob hob so g fx hfx)
    isplitl [Ho]; · iexact Ho
    isplitl [HO] <;> iassumption
  · iintro %_ HG
    isplitl [Hx]; · iexact Hx
    isplitl [Hb]; · iexact Hb
    isplitl [HG] <;> iassumption

/-- Chunk `g` arriving. -/
theorem wp_arrive (xb : Memref sig .scVector .vmem S16384 .f32) (hxb : xb.IsWhole) (si : DmaSem sig) (g : Fin 32) {hi : ℕ} (hhi : g.val < hi) :
    iprop(ComingIn d i X xb si g ∗ XPool d i X g.val hi ∗ Owing d i O W ∗ Allowed d i O)
      ⊢ runs d i (waitIn i xb hxb si g) fun _ =>
          iprop((∃ f, holds d i xb fullShare f ∗ ⌜xb.view.read (Elt F) f = (xC i g).view.read (Elt F) X⌝) ∗ idle d i si ∗ XPool d i X (g.val + 1) hi ∗ Owing d i O W) := by
  iintro ⟨HF, HP, HO, #Hm⟩
  iapply (wp_wand_r frame (wpE (defs₀ (F := F)) 𝒱₀ (thr d i) none) Set.univ)
  isplitl [HF HO]
  · iapply (wp_waitIn d i X O W xb hxb si g)
    isplitl [HF]; · iexact HF
    isplitl [HO]; · iexact HO
    iexact Hm
  · iintro %_ ⟨⟨Hx, HX⟩, Hs, HO⟩
    isplitl [Hx]; · iexact Hx
    isplitl [Hs]; · iexact Hs
    isplitl [HX HP]
    · iapply (Pool.put _ _ g hhi)
      isplitl [HX] <;> iassumption
    · iexact HO

/-- Chunk `g` sent. -/
theorem wp_depart (ob : Memref sig .scVector .vmem S16384 .i32) (hob : ob.IsWhole) (so : DmaSem sig) (g : Fin 32) {hi : ℕ} (hhi : g.val < hi) :
    iprop(GoingOut d i X B ob so g ∗ OPool d i X B Y g.val hi ∗ Owing d i O W ∗ Allowed d i O)
      ⊢ runs d i (waitOut i ob hob so g) fun _ =>
          iprop((∃ f, holds d i ob fullShare f) ∗ idle d i so ∗ OPool d i X B Y (g.val + 1) hi ∗ Owing d i O W) := by
  iintro ⟨HF, HP, HO, #Hm⟩
  iapply (wp_wand_r frame (wpE (defs₀ (F := F)) 𝒱₀ (thr d i) none) Set.univ)
  isplitl [HF HO]
  · iapply (wp_waitOut d i X B O W ob hob so g)
    isplitl [HF]; · iexact HF
    isplitl [HO]; · iexact HO
    iexact Hm
  · iintro %_ ⟨⟨HR, Ho⟩, Hs, HO⟩
    isplitl [Ho]; · iexact Ho
    isplitl [Hs]; · iexact Hs
    isplitl [HR HP]
    · iapply (Pool.put _ _ g hhi)
      isplitl [HR] <;> iassumption
    · iexact HO

/-- Asking for chunk `g`. -/
theorem wp_ask (xb : Memref sig .scVector .vmem S16384 .f32) (hxb : xb.IsWhole) (si : DmaSem sig) (g : Fin 32) {lo : ℕ} (hlo : lo ≤ g.val) :
    iprop((∃ f, holds d i xb fullShare f) ∗ idle d i si ∗ XPool d i X lo g.val)
      ⊢ runs d i (startIn i xb hxb si g) fun _ => iprop(ComingIn d i X xb si g ∗ XPool d i X lo (g.val + 1)) := by
  iintro ⟨Hx, Hs, HP⟩
  ihave HP := (Pool.take _ _ g hlo) $$ HP
  icases HP with ⟨HX, HP⟩
  iapply (wp_wand_r frame (wpE (defs₀ (F := F)) 𝒱₀ (thr d i) none) Set.univ)
  isplitl [Hx HX Hs]
  · iapply (wp_startIn d i X xb hxb si g)
    isplitl [HX]; · iexact HX
    isplitl [Hx] <;> iassumption
  · iintro %_ HF
    isplitl [HF] <;> iassumption

/-- `wp_fill` at the head of a program. -/
theorem fill_then (xb : Memref sig .scVector .vmem S16384 .f32) (hxb : xb.IsWhole) (ob : Memref sig .scVector .vmem S16384 .i32) (hob : ob.IsWhole)
    (so : DmaSem sig) (g : Fin 32) {lo : ℕ} (hlo : lo ≤ g.val) (fx : Buf (Elt F) (xb.view.loc (thr d i)))
    (hfx : xb.view.read (Elt F) fx = (xC i g).view.read (Elt F) X) {β : Type} {k : PUnit → TProg F i β} {Q : β → sProp 𝕄} :
    iprop(holds d i xb fullShare fx ∗ holds d i bT fullShare B ∗ (∃ f, holds d i ob fullShare f) ∗ idle d i so ∗ OPool d i X B Y lo g.val)
      ⊢ iprop((∀ a, (holds d i xb fullShare fx ∗ holds d i bT fullShare B ∗ GoingOut d i X B ob so g ∗ OPool d i X B Y lo (g.val + 1)) -∗ runs d i (k a) Q)
        -∗ runs d i (scan i xb hxb ob >>= fun _ => startOut i ob hob so g >>= k) Q) := by
  have := runs_then d i (wp_fill d i X B Y xb hxb ob hob so g hlo fx hfx) (k := k) (Q := Q)
  rwa [bind_assoc] at this

/-- The first stage of a parity. -/
theorem wp_stageFirst (xb : Memref sig .scVector .vmem S16384 .f32) (hxb : xb.IsWhole) (ob : Memref sig .scVector .vmem S16384 .i32) (hob : ob.IsWhole)
    (si so : DmaSem sig) (g gn : Fin 32) (h : g.val < gn.val) :
    iprop((ComingIn d i X xb si g ∗ (∃ f, holds d i ob fullShare f) ∗ idle d i so ∗ XPool d i X g.val gn.val ∗ OPool d i X B Y 0 g.val ∗ Kept d i B O W) ∗ Allowed d i O)
      ⊢ runs d i (stageFirst i xb hxb ob hob si so g gn) fun _ =>
          iprop(ComingIn d i X xb si gn ∗ GoingOut d i X B ob so g ∗ XPool d i X (g.val + 1) (gn.val + 1) ∗ OPool d i X B Y 0 (g.val + 1) ∗ Kept d i B O W) := by
  unfold stageFirst
  iintro ⟨⟨HI, Ho, Hso, HX, HP, Hb, HO⟩, #Hm⟩
  iapply (runs_then d i (wp_arrive d i X O W xb hxb si g h)) $$ [HI HX HO]
  · isplitl [HI]; · iexact HI
    isplitl [HX]; · iexact HX
    isplitl [HO]; · iexact HO
    iexact Hm
  iintro %_ ⟨⟨%fx, Hx, %hfx⟩, Hsi, HX, HO⟩
  iapply (fill_then d i X B Y xb hxb ob hob so g (Nat.zero_le _) fx hfx) $$ [Hx Hb Ho Hso HP]
  · isplitl [Hx]; · iexact Hx
    isplitl [Hb]; · iexact Hb
    isplitl [Ho]; · iexact Ho
    isplitl [Hso] <;> iassumption
  iintro %_ ⟨Hx, Hb, HG, HP⟩
  iapply (wp_wand_r frame (wpE (defs₀ (F := F)) 𝒱₀ (thr d i) none) Set.univ)
  isplitl [Hx Hsi HX]
  · iapply (wp_ask d i X xb hxb si gn h)
    isplitl [Hx]; · iexists fx; iexact Hx
    isplitl [Hsi] <;> iassumption
  iintro %_ ⟨HI, HX⟩
  isplitl [HI]; · iexact HI
  isplitl [HG]; · iexact HG
  isplitl [HX]; · iexact HX
  isplitl [HP]; · iexact HP
  isplitl [Hb] <;> iassumption

/-- A stage of the steady state. -/
theorem wp_stage (xb : Memref sig .scVector .vmem S16384 .f32) (hxb : xb.IsWhole) (ob : Memref sig .scVector .vmem S16384 .i32) (hob : ob.IsWhole)
    (si so : DmaSem sig) (gp g gn : Fin 32) (hp : gp.val < g.val) (h : g.val < gn.val) :
    iprop((ComingIn d i X xb si g ∗ GoingOut d i X B ob so gp ∗ XPool d i X g.val gn.val ∗ OPool d i X B Y gp.val g.val ∗ Kept d i B O W) ∗ Allowed d i O)
      ⊢ runs d i (stage i xb hxb ob hob si so gp g gn) fun _ =>
          iprop(ComingIn d i X xb si gn ∗ GoingOut d i X B ob so g ∗ XPool d i X (g.val + 1) (gn.val + 1) ∗ OPool d i X B Y (gp.val + 1) (g.val + 1) ∗ Kept d i B O W) := by
  unfold stage
  iintro ⟨⟨HI, HG, HX, HP, Hb, HO⟩, #Hm⟩
  iapply (runs_then d i (wp_arrive d i X O W xb hxb si g h)) $$ [HI HX HO]
  · isplitl [HI]; · iexact HI
    isplitl [HX]; · iexact HX
    isplitl [HO]; · iexact HO
    iexact Hm
  iintro %_ ⟨⟨%fx, Hx, %hfx⟩, Hsi, HX, HO⟩
  iapply (runs_then d i (wp_depart d i X B Y O W ob hob so gp hp)) $$ [HG HP HO]
  · isplitl [HG]; · iexact HG
    isplitl [HP]; · iexact HP
    isplitl [HO]; · iexact HO
    iexact Hm
  iintro %_ ⟨Ho, Hso, HP, HO⟩
  iapply (fill_then d i X B Y xb hxb ob hob so g hp fx hfx) $$ [Hx Hb Ho Hso HP]
  · isplitl [Hx]; · iexact Hx
    isplitl [Hb]; · iexact Hb
    isplitl [Ho]; · iexact Ho
    isplitl [Hso] <;> iassumption
  iintro %_ ⟨Hx, Hb, HG, HP⟩
  iapply (wp_wand_r frame (wpE (defs₀ (F := F)) 𝒱₀ (thr d i) none) Set.univ)
  isplitl [Hx Hsi HX]
  · iapply (wp_ask d i X xb hxb si gn h)
    isplitl [Hx]; · iexists fx; iexact Hx
    isplitl [Hsi] <;> iassumption
  iintro %_ ⟨HI, HX⟩
  isplitl [HI]; · iexact HI
  isplitl [HG]; · iexact HG
  isplitl [HX]; · iexact HX
  isplitl [HP]; · iexact HP
  isplitl [Hb] <;> iassumption

/-- The last stage of a parity. -/
theorem wp_stageLast (xb : Memref sig .scVector .vmem S16384 .f32) (hxb : xb.IsWhole) (ob : Memref sig .scVector .vmem S16384 .i32) (hob : ob.IsWhole)
    (si so : DmaSem sig) (gp g : Fin 32) (hp : gp.val < g.val) :
    iprop((ComingIn d i X xb si g ∗ GoingOut d i X B ob so gp ∗ XPool d i X g.val 32 ∗ OPool d i X B Y gp.val g.val ∗ Kept d i B O W) ∗ Allowed d i O)
      ⊢ runs d i (stageLast i xb hxb ob hob si so gp g) fun _ =>
          iprop((∃ f, holds d i xb fullShare f) ∗ idle d i si ∗ GoingOut d i X B ob so g ∗ XPool d i X (g.val + 1) 32 ∗ OPool d i X B Y (gp.val + 1) (g.val + 1)
            ∗ Kept d i B O W) := by
  unfold stageLast
  iintro ⟨⟨HI, HG, HX, HP, Hb, HO⟩, #Hm⟩
  iapply (runs_then d i (wp_arrive d i X O W xb hxb si g g.isLt)) $$ [HI HX HO]
  · isplitl [HI]; · iexact HI
    isplitl [HX]; · iexact HX
    isplitl [HO]; · iexact HO
    iexact Hm
  iintro %_ ⟨⟨%fx, Hx, %hfx⟩, Hsi, HX, HO⟩
  iapply (runs_then d i (wp_depart d i X B Y O W ob hob so gp hp)) $$ [HG HP HO]
  · isplitl [HG]; · iexact HG
    isplitl [HP]; · iexact HP
    isplitl [HO]; · iexact HO
    iexact Hm
  iintro %_ ⟨Ho, Hso, HP, HO⟩
  iapply (wp_wand_r frame (wpE (defs₀ (F := F)) 𝒱₀ (thr d i) none) Set.univ)
  isplitl [Hx Hb Ho Hso HP]
  · iapply (wp_fill d i X B Y xb hxb ob hob so g hp fx hfx)
    isplitl [Hx]; · iexact Hx
    isplitl [Hb]; · iexact Hb
    isplitl [Ho]; · iexact Ho
    isplitl [Hso] <;> iassumption
  iintro %_ ⟨Hx, Hb, HG, HP⟩
  isplitl [Hx]; · iexists fx; iexact Hx
  isplitl [Hsi]; · iexact Hsi
  isplitl [HG]; · iexact HG
  isplitl [HX]; · iexact HX
  isplitl [HP]; · iexact HP
  isplitl [Hb] <;> iassumption

/-! ## The steady state -/

/-- What the tile holds before round `n` of the steady state. -/
def Between (n : ℕ) (h : n ≤ 14) : sProp 𝕄 :=
  iprop(ComingIn d i X x0 cc0_scratch5.sem (ch n 2) ∗ ComingIn d i X x1 cc0_scratch6.sem (ch n 3)
    ∗ GoingOut d i X B o0 cc0_scratch7.sem (ch n 0) ∗ GoingOut d i X B o1 cc0_scratch8.sem (ch n 1)
    ∗ XPool d i X (2 * n + 2) (2 * n + 4) ∗ OPool d i X B Y (2 * n) (2 * n + 2) ∗ Kept d i B O W)

/-- One round. -/
theorem wp_pair (n : ℕ) (h : n < 14) :
    iprop(Between d i X B Y O W n (Nat.le_of_lt h) ∗ Allowed d i O) ⊢ runs d i (pair i n h) fun _ => Between d i X B Y O W (n + 1) h := by
  have even := wp_stage d i X B Y O W x0 (Memref.isWhole_whole _) o0 (Memref.isWhole_whole _) cc0_scratch5.sem cc0_scratch7.sem (ch n 0) (ch n 2) (ch n 4)
    (by show 2 * n + 0 < 2 * n + 2; omega) (by show 2 * n + 2 < 2 * n + 4; omega)
  have odd := wp_stage d i X B Y O W x1 (Memref.isWhole_whole _) o1 (Memref.isWhole_whole _) cc0_scratch6.sem cc0_scratch8.sem (ch n 1) (ch n 3) (ch n 5)
    (by show 2 * n + 1 < 2 * n + 3; omega) (by show 2 * n + 3 < 2 * n + 5; omega)
  unfold pair Between
  iintro ⟨⟨HI0, HI1, HG0, HG1, HX, HP, HK⟩, #Hm⟩
  iapply (runs_then d i even) $$ [HI0 HG0 HX HP HK]
  · isplitl
    · isplitl [HI0]; · iexact HI0
      isplitl [HG0]; · iexact HG0
      isplitl [HX]; · iexact HX
      isplitl [HP] <;> iassumption
    · iexact Hm
  iintro %_ ⟨HI0, HG0, HX, HP, HK⟩
  iapply (wp_wand_r frame (wpE (defs₀ (F := F)) 𝒱₀ (thr d i) none) Set.univ)
  isplitl [HI1 HG1 HX HP HK]
  · iapply odd
    isplitl
    · isplitl [HI1]; · iexact HI1
      isplitl [HG1]; · iexact HG1
      isplitl [HX]; · iexact HX
      isplitl [HP] <;> iassumption
    · iexact Hm
  iintro %_ ⟨HI1, HG1, HX, HP, HK⟩
  isplitl [HI0]; · iexact HI0
  isplitl [HI1]; · iexact HI1
  isplitl [HG0]; · iexact HG0
  isplitl [HG1]; · iexact HG1
  isplitl [HX]; · iexact HX
  isplitl [HP]; · iexact HP
  iexact HK

/-- The first `n` rounds. -/
theorem wp_pairs (n : ℕ) (h : n ≤ 14) :
    iprop(Between d i X B Y O W 0 (Nat.zero_le _) ∗ Allowed d i O) ⊢ runs d i (pairs i n h) fun _ => Between d i X B Y O W n h := by
  induction n with
  | zero =>
    iintro ⟨H, -⟩
    iapply (runs_ret d i)
    iexact H
  | succ n ih =>
    unfold pairs
    iintro ⟨H, #Hm⟩
    iapply (runs_then d i (ih (Nat.le_of_succ_le h))) $$ [H]
    · isplitl; · iexact H
      iexact Hm
    iintro %_ H
    iapply (wp_pair d i X B Y O W n h)
    isplitl; · iexact H
    iexact Hm

/-! ## The whole task -/

/-- The boundary table written over the tile's copy. -/
theorem write_table (f : Buf (Elt F) (bT.view.loc (thr d i))) : (bT).view.write (Elt F) f ((bA).view.read (Elt F) B) Finset.univ = B :=
  funext fun x => (View.write_emb_of_mem (v := (bT).view) f _ (Finset.mem_univ x)).trans rfl

/-- Fetching the boundary table. -/
theorem wp_fetchTable (q : PosShare TreeShare) :
    iprop((holds d i bA q B ∗ (∃ f, holds d i bT fullShare f) ∗ idle d i cc0_scoped0.sem ∗ Owing d i O W) ∗ Allowed d i O)
      ⊢ runs d i (fetchTable i) fun _ => iprop(holds d i bA q B ∗ idle d i cc0_scoped0.sem ∗ Kept d i B O W) := by
  unfold fetchTable runs
  simp only [Prog.bind_lift, Prog.bind_op, Prog.bind_ret]
  iintro ⟨⟨HB, ⟨%f, Hb⟩, Hs, ⟨%W', %hW, HO⟩⟩, #Hm⟩
  iapply (Transfers.wp_dmaLocal EC 𝒱₀ (thr d i) none (src := bA) (dst := bT) (sm := .dma cc0_scoped0.sem) (q := q) (fs := B) (fd := f) (Sd := Finset.univ) (none : HIx 1)
    (bT).view.dmaCredit rfl (View.dmaCredit_pos _ (by decide)) (Finset.subset_univ _)) $$ [HB Hb Hs]
  · rw [(Memref.isWhole_whole main_arg1_scv).set_eq_univ]
    isplitl [HB]; · iexact HB
    isplitl [Hb] <;> iassumption
  iintro HF
  iapply (Transfers.wp_waitLocalO EC 𝒱₀ (thr d i) none (none : HIx 1) rfl) $$ [HF HO]
  · isplitl [HF]; · iexact HF
    isplitl [HO]; · iexact HO
    iapply (Transfers.MayWaits.elim (.dma cc0_scoped0.sem)) $$ Hm
  rw [(Memref.isWhole_whole main_arg1_scv).set_eq_univ, write_table]
  iintro ⟨⟨Hb, HB⟩, Hs, HO⟩
  iapply (runs_ret d i)
  isplitl [HB]; · iexact HB
  isplitl [Hs]; · iexact Hs
  isplitl [Hb]; · iexact Hb
  iexists insert (SemLoc.dma cc0_scoped0.sem, (none : HIx 1)) W'
  isplitr [HO]
  · ipureintro; exact waited hW
  · iexact HO

/-- The tile's five buffers, whatever they hold. -/
abbrev Buffers : sProp 𝕄 :=
  iprop((∃ f, holds d i bT fullShare f) ∗ (∃ f, holds d i x0 fullShare f) ∗ (∃ f, holds d i x1 fullShare f)
    ∗ (∃ f, holds d i o0 fullShare f) ∗ ∃ f, holds d i o1 fullShare f)

/-- The tile's five semaphores, nothing in flight. -/
abbrev Idle : sProp 𝕄 :=
  iprop(idle d i cc0_scratch5.sem ∗ idle d i cc0_scratch6.sem ∗ idle d i cc0_scratch7.sem ∗ idle d i cc0_scratch8.sem ∗ idle d i cc0_scoped0.sem)

set_option maxHeartbeats 2000000 in
/-- The whole task: every chunk of the result counted, the input and the table unchanged, the buffers and semaphores
    back. -/
theorem wp_task (q : PosShare TreeShare) :
    iprop((holds d i bA q B ∗ bigSep Finset.univ (XIn d i X) ∗ bigSep Finset.univ (OOut d i Y)) ∗ Buffers d i ∗ Idle d i ∗ Owing d i O W ∗ Allowed d i O)
      ⊢ runs d i (task i) fun _ =>
          iprop((holds d i bA q B ∗ bigSep Finset.univ (XIn d i X) ∗ bigSep Finset.univ (OOut d i (result d i X B))) ∗ Buffers d i ∗ Idle d i ∗ Owing d i O W) := by
  have ask := wp_ask d i X x0 (Memref.isWhole_whole _) cc0_scratch5.sem (ch 0 0) (Nat.zero_le _)
  have ask' := wp_ask d i X x1 (Memref.isWhole_whole _) cc0_scratch6.sem (ch 0 1) (Nat.zero_le _)
  have gone := wp_depart d i X B Y O W o0 (Memref.isWhole_whole _) cc0_scratch7.sem (ch 14 2) (hi := 32) (by decide)
  have gone' := wp_depart d i X B Y O W o1 (Memref.isWhole_whole _) cc0_scratch8.sem (ch 14 3) (hi := 32) (by decide)
  have first := wp_stageFirst d i X B Y O W x0 (Memref.isWhole_whole _) o0 (Memref.isWhole_whole _) cc0_scratch5.sem cc0_scratch7.sem (ch 0 0) (ch 0 2) (by decide)
  have second := wp_stageFirst d i X B Y O W x1 (Memref.isWhole_whole _) o1 (Memref.isWhole_whole _) cc0_scratch6.sem cc0_scratch8.sem (ch 0 1) (ch 0 3) (by decide)
  have last := wp_stageLast d i X B Y O W x0 (Memref.isWhole_whole _) o0 (Memref.isWhole_whole _) cc0_scratch5.sem cc0_scratch7.sem (ch 14 0) (ch 14 2) (by decide)
  have last' := wp_stageLast d i X B Y O W x1 (Memref.isWhole_whole _) o1 (Memref.isWhole_whole _) cc0_scratch6.sem cc0_scratch8.sem (ch 14 1) (ch 14 3) (by decide)
  unfold task
  iintro ⟨⟨HB, HX, HP⟩, ⟨Hb, Hx0, Hx1, Ho0, Ho1⟩, ⟨Hi0, Hi1, Hs0, Hs1, Ht⟩, HO, #Hm⟩
  ihave HX := (Entails.of_eq (Pool.start (XIn d i X) (XIn d i X)).symm) $$ HX
  ihave HP := (Entails.of_eq (Pool.start (OOut d i (result d i X B)) (OOut d i Y)).symm) $$ HP
  iapply (runs_then d i (wp_fetchTable d i B O W q)) $$ [HB Hb Ht HO]
  · isplitl
    · isplitl [HB]; · iexact HB
      isplitl [Hb]; · iexact Hb
      isplitl [Ht] <;> iassumption
    · iexact Hm
  iintro %_ ⟨HB, Ht, HK⟩
  iapply (runs_then d i ask) $$ [Hx0 Hi0 HX]
  · isplitl [Hx0]; · iexact Hx0
    isplitl [Hi0] <;> iassumption
  iintro %_ ⟨HI0, HX⟩
  iapply (runs_then d i ask') $$ [Hx1 Hi1 HX]
  · isplitl [Hx1]; · iexact Hx1
    isplitl [Hi1] <;> iassumption
  iintro %_ ⟨HI1, HX⟩
  iapply (runs_then d i first) $$ [HI0 Ho0 Hs0 HX HP HK]
  · isplitl
    · isplitl [HI0]; · iexact HI0
      isplitl [Ho0]; · iexact Ho0
      isplitl [Hs0]; · iexact Hs0
      isplitl [HX]; · iexact HX
      isplitl [HP] <;> iassumption
    · iexact Hm
  iintro %_ ⟨HI0, HG0, HX, HP, HK⟩
  iapply (runs_then d i second) $$ [HI1 Ho1 Hs1 HX HP HK]
  · isplitl
    · isplitl [HI1]; · iexact HI1
      isplitl [Ho1]; · iexact Ho1
      isplitl [Hs1]; · iexact Hs1
      isplitl [HX]; · iexact HX
      isplitl [HP] <;> iassumption
    · iexact Hm
  iintro %_ ⟨HI1, HG1, HX, HP, HK⟩
  iapply (runs_then d i (wp_pairs d i X B Y O W 14 (Nat.le_refl _))) $$ [HI0 HI1 HG0 HG1 HX HP HK]
  · isplitl
    · unfold Between
      isplitl [HI0]; · iexact HI0
      isplitl [HI1]; · iexact HI1
      isplitl [HG0]; · iexact HG0
      isplitl [HG1]; · iexact HG1
      isplitl [HX]; · iexact HX
      isplitl [HP] <;> iassumption
    · iexact Hm
  iintro %_ H
  unfold Between
  icases H with ⟨HI0, HI1, HG0, HG1, HX, HP, HK⟩
  iapply (runs_then d i last) $$ [HI0 HG0 HX HP HK]
  · isplitl
    · isplitl [HI0]; · iexact HI0
      isplitl [HG0]; · iexact HG0
      isplitl [HX]; · iexact HX
      isplitl [HP] <;> iassumption
    · iexact Hm
  iintro %_ ⟨Hx0, Hi0, HG0, HX, HP, HK⟩
  iapply (runs_then d i last') $$ [HI1 HG1 HX HP HK]
  · isplitl
    · isplitl [HI1]; · iexact HI1
      isplitl [HG1]; · iexact HG1
      isplitl [HX]; · iexact HX
      isplitl [HP] <;> iassumption
    · iexact Hm
  iintro %_ ⟨Hx1, Hi1, HG1, HX, HP, Hb, HO⟩
  iapply (runs_then d i gone) $$ [HG0 HP HO]
  · isplitl [HG0]; · iexact HG0
    isplitl [HP]; · iexact HP
    isplitl [HO]; · iexact HO
    iexact Hm
  iintro %_ ⟨Ho0, Hs0, HP, HO⟩
  iapply (wp_wand_r frame (wpE (defs₀ (F := F)) 𝒱₀ (thr d i) none) Set.univ)
  isplitl [HG1 HP HO]
  · iapply gone'
    isplitl [HG1]; · iexact HG1
    isplitl [HP]; · iexact HP
    isplitl [HO]; · iexact HO
    iexact Hm
  iintro %_ ⟨Ho1, Hs1, HP, HO⟩
  ihave HX := (Entails.of_eq (Pool.done (XIn d i X) (XIn d i X))) $$ HX
  ihave HP := (Entails.of_eq (Pool.done (OOut d i (result d i X B)) (OOut d i Y))) $$ HP
  isplitl [HB HX HP]
  · isplitl [HB]; · iexact HB
    isplitl [HX] <;> iassumption
  isplitl [Hb Hx0 Hx1 Ho0 Ho1]
  · isplitl [Hb]; · iexists B; iexact Hb
    isplitl [Hx0]; · iexact Hx0
    isplitl [Hx1]; · iexact Hx1
    isplitl [Ho0] <;> iassumption
  isplitl [Hi0 Hi1 Hs0 Hs1 Ht]
  · isplitl [Hi0]; · iexact Hi0
    isplitl [Hi1]; · iexact Hi1
    isplitl [Hs0]; · iexact Hs0
    isplitl [Hs1] <;> iassumption
  iexact HO

end Cert.Proof.KernelIdeal

end
-- ==== Proof.KernelIdeal.Chunks.lean ====
/-
  The launch's arrays dealt to the tiles of `KernelIdeal`. Tile `(c, s)` works on the elements from
  `1048576 * s + 524288 * c` on, in thirty-two chunks of 16384, so the chunks of all tiles are disjoint and make up the
  array. Every tile reads the whole boundary table, so the table is dealt in read shares.
-/
module

public import proofs.«01_k».proof.Proof.KernelIdeal.Copies

@[expose] public section

set_option maxRecDepth 16384

noncomputable section

namespace Cert.Proof.KernelIdeal

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Cert.Proof.Search

variable {F : FTy → Type} [FloatOps F]

local notation "𝕄" => MT nD τ sig (HIx 1) (Elt F) ℕ UU ℕ

/-! ## The arrays, as the launch names them -/

/-- The input, the boundary table and the result of device `d`. -/
abbrev xLoc (d : Dev nD) : Loc nD τ sig := (d.tc : Thread nD τ).loc main_arg0
@[inherit_doc xLoc] abbrev bLoc (d : Dev nD) : Loc nD τ sig := (d.tc : Thread nD τ).loc main_arg1
@[inherit_doc xLoc] abbrev oLoc (d : Dev nD) : Loc nD τ sig := (d.tc : Thread nD τ).loc main_v0

/-- The result of the whole array: at each index, the count of the value there. -/
def counted {d : Dev nD} (X : Buf (Elt F) (xLoc d)) (B : Buf (Elt F) (bLoc d)) : Buf (Elt F) (oLoc d) := fun j => count (F := F) B (X j)

/-! ## The chunks -/

/-- A chunk of the launch: its SparseCore, its tile, and its number there. -/
abbrev ChunkIx : Type := (Fin (grid0.bound 0) × Fin (grid0.bound 1)) × Fin 32

/-- The elements of a chunk. -/
abbrev chunkSet (k : ChunkIx) : Finset S16777216.Idx := (chunkR (coordsV k.1.1 k.1.2) k.2).set

/-- Where a chunk starts. -/
def chunkStart (k : ChunkIx) : ℕ := 1048576 * k.1.2.val + 524288 * k.1.1.val + 16384 * k.2.val

/-- An element is in a chunk when it lies in the chunk's 16384 elements. -/
theorem mem_chunkSet {k : ChunkIx} {j : S16777216.Idx} : j ∈ chunkSet k ↔ chunkStart k ≤ (j 0).val ∧ (j 0).val < chunkStart k + 16384 := by
  unfold chunkSet chunkR
  rw [Rect.mem_set_unit, k0_off1_eq]
  constructor
  · intro h; exact h 0
  · intro h a
    rw [show a = 0 from Subsingleton.elim _ _]
    exact h

/-- Two chunks share no element. -/
theorem chunkSet_disjoint (k : ChunkIx) (k' : ChunkIx) (h : k ≠ k') : Disjoint (chunkSet k) (chunkSet k') := by
  rw [Finset.disjoint_left]
  intro j hj hj'
  rw [mem_chunkSet] at hj hj'
  apply h
  obtain ⟨⟨c, s⟩, g⟩ := k
  obtain ⟨⟨c', s'⟩, g'⟩ := k'
  unfold chunkStart at hj hj'
  dsimp only at hj hj'
  have hc : c.val < 2 := c.isLt
  have hc' : c'.val < 2 := c'.isLt
  have hg := g.isLt
  have hg' := g'.isLt
  have e₁ : s.val = s'.val := by omega
  have e₂ : c.val = c'.val := by omega
  have e₃ : g.val = g'.val := by omega
  rw [Fin.ext e₁, Fin.ext e₂, Fin.ext e₃]

/-- Every element is in a chunk. -/
theorem chunkSet_cover : (Finset.univ : Finset ChunkIx).biUnion chunkSet = Finset.univ := by
  refine Finset.eq_univ_of_forall fun j => ?_
  have hj : (j 0).val < 16777216 := (j 0).isLt
  have hs : (j 0).val / 1048576 < 16 := by omega
  have hc : (j 0).val / 524288 % 2 < 2 := by omega
  have hg : (j 0).val / 16384 % 32 < 32 := by omega
  refine Finset.mem_biUnion.mpr ⟨((⟨_, hc⟩, ⟨_, hs⟩), ⟨_, hg⟩), Finset.mem_univ _, ?_⟩
  rw [mem_chunkSet]
  unfold chunkStart
  dsimp only
  omega

/-! ## What the tiles are dealt -/

/-- The read share of the boundary table tile `(c, s)` is dealt. -/
def tileShare (c : Fin (grid0.bound 0)) (s : Fin (grid0.bound 1)) : PosShare TreeShare := Transfers.dealOf (Transfers.dealOf fullShare Finset.univ c) Finset.univ s

variable (d : Dev nD) (X : Buf (Elt F) (xLoc d)) (B : Buf (Elt F) (bLoc d)) (Y : Buf (Elt F) (oLoc d))

/-- What tile `(c, s)` is dealt: a read share of the table, its chunks of the input, and its chunks of the result at
    contents `Y`. -/
def dealt (c : Fin (grid0.bound 0)) (s : Fin (grid0.bound 1)) : sProp 𝕄 :=
  iprop(holds d (coordsV c s) bA (tileShare c s) B ∗ bigSep Finset.univ (XIn d (coordsV c s) X) ∗ bigSep Finset.univ (OOut d (coordsV c s) Y))

/-- The table is the tiles' shares of it. -/
theorem table_shares : (bLoc d ↦{fullShare} B : sProp 𝕄)
    = bigSep Finset.univ fun c => bigSep Finset.univ fun s => holds d (coordsV c s) bA (tileShare c s) B := by
  rw [Transfers.pointsTo_deal (Finset.univ : Finset (Fin (grid0.bound 0))) ⟨⟨0, by decide⟩, Finset.mem_univ _⟩ fullShare]
  refine bigSep_congr fun c _ => ?_
  rw [Transfers.pointsTo_deal (Finset.univ : Finset (Fin (grid0.bound 1))) ⟨⟨0, by decide⟩, Finset.mem_univ _⟩ (Transfers.dealOf fullShare Finset.univ c)]
  rfl

/-- The input is the tiles' chunks of it, -/
theorem input_chunks : (xLoc d ↦{fullShare} X : sProp 𝕄)
    = bigSep Finset.univ fun c => bigSep Finset.univ fun s => bigSep Finset.univ (XIn d (coordsV c s) X) := by
  rw [← bigSep_univ_prod (fun k : Fin (grid0.bound 0) × Fin (grid0.bound 1) => bigSep Finset.univ (XIn d (coordsV k.1 k.2) X)),
    ← bigSep_univ_prod (fun k : ChunkIx => XIn d (coordsV k.1.1 k.1.2) X k.2)]
  refine Eq.trans ?_ ((pointsTo_biUnion (ℓ := xLoc d) (q := fullShare) (f := X) Finset.univ chunkSet fun k _ k' _ h => chunkSet_disjoint k k' h).trans
    (bigSep_congr (Ψ := fun k : ChunkIx => (XIn d (coordsV k.1.1 k.1.2) X k.2 : sProp 𝕄)) fun k _ => ?_))
  · rw [chunkSet_cover]
  · unfold XIn holdsOn
    rw [show (xC (coordsV k.1.1 k.1.2) k.2).view.set = chunkSet k from View.set_slice_whole _ _]

/-- and so is the result. -/
theorem output_chunks : (oLoc d ↦{fullShare} Y : sProp 𝕄)
    = bigSep Finset.univ fun c => bigSep Finset.univ fun s => bigSep Finset.univ (OOut d (coordsV c s) Y) := by
  rw [← bigSep_univ_prod (fun k : Fin (grid0.bound 0) × Fin (grid0.bound 1) => bigSep Finset.univ (OOut d (coordsV k.1 k.2) Y)),
    ← bigSep_univ_prod (fun k : ChunkIx => OOut d (coordsV k.1.1 k.1.2) Y k.2)]
  refine Eq.trans ?_ ((pointsTo_biUnion (ℓ := oLoc d) (q := fullShare) (f := Y) Finset.univ chunkSet fun k _ k' _ h => chunkSet_disjoint k k' h).trans
    (bigSep_congr (Ψ := fun k : ChunkIx => (OOut d (coordsV k.1.1 k.1.2) Y k.2 : sProp 𝕄)) fun k _ => ?_))
  · rw [chunkSet_cover]
  · unfold OOut holdsOn
    rw [show (oC (coordsV k.1.1 k.1.2) k.2).view.set = chunkSet k from View.set_slice_whole _ _]

/-- The three arrays are what the tiles are dealt. -/
theorem arrays_dealt : (iprop((bLoc d ↦{fullShare} B) ∗ (xLoc d ↦{fullShare} X) ∗ oLoc d ↦{fullShare} Y) : sProp 𝕄)
    = bigSep Finset.univ fun c => bigSep Finset.univ fun s => dealt d X B Y c s := by
  unfold dealt
  rw [table_shares, input_chunks, output_chunks]
  simp only [bigSep_sep']

end Cert.Proof.KernelIdeal

end
-- ==== Proof.KernelIdeal.Launch.lean ====
/-
  The launch of `KernelIdeal`: the tile program's statement turned into the launch theorem's obligations, the one call run on
  the TensorCore, and the run of the whole program. Its end leaves the input and the table as they were, the result
  counted at every element, and every semaphore at zero (`run_main`).
-/
module

public import proofs.«01_k».proof.Proof.KernelIdeal.Task
public import proofs.«01_k».proof.Proof.KernelIdeal.Chunks

@[expose] public section

set_option maxRecDepth 16384

noncomputable section

namespace Cert.Proof.KernelIdeal

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Cert.Proof.Search

variable {F : FTy → Type} [FloatOps F]

local notation "𝕄" => MT nD τ sig (HIx 1) (Elt F) ℕ UU ℕ

open Idealize.ShloMosaic.SparseCore.Cfg (mem_ownCells ownSems0 ownBufs ownRefs ownCells)
open Idealize.ShloMosaic.Rounds

variable (m : (ℓ : Loc nD τ sig) → Buf (Elt F) ℓ) (ρ : Dev nD → PrngReg)

/-! ## What the call's handshakes carry -/

/-- The result of device `d` from the launch memory. -/
abbrev answer (d : Dev nD) : Buf (Elt F) (oLoc d) := counted (m (xLoc d)) (m (bLoc d))

/-- What tile `(c, s)` is handed, and what it hands back. -/
abbrev given (d : Dev nD) (c : Fin (grid0.bound 0)) (s : Fin (grid0.bound 1)) : sProp 𝕄 := dealt d (m (xLoc d)) (m (bLoc d)) (m (oLoc d)) c s
@[inherit_doc given] abbrev returned (d : Dev nD) (c : Fin (grid0.bound 0)) (s : Fin (grid0.bound 1)) : sProp 𝕄 :=
  dealt d (m (xLoc d)) (m (bLoc d)) (answer m d) c s

/-- What the tiles of SparseCore `c` are handed together, and what they hand back together. -/
def givenAll (d : Dev nD) (c : Fin (grid0.bound 0)) : sProp 𝕄 := bigSep Finset.univ fun s => given m d c s
@[inherit_doc givenAll] def returnedAll (d : Dev nD) (c : Fin (grid0.bound 0)) : sProp 𝕄 := bigSep Finset.univ fun s => returned m d c s

/-- What a tile is given, or a core is given or returns, is made of array cells alone, so it may be kept by a handshake. -/
instance given_storable (d : Dev nD) (Y : Buf (Elt F) (oLoc d)) (c : Fin (grid0.bound 0)) (s : Fin (grid0.bound 1)) :
    BI.Storable (upEmb : UEmb _ 𝕄) (dealt d (m (xLoc d)) (m (bLoc d)) Y c s) := by
  unfold dealt; infer_instance
@[inherit_doc given_storable] instance givenAll_storable (d : Dev nD) (c : Fin (grid0.bound 0)) : BI.Storable (upEmb : UEmb _ 𝕄) (givenAll m d c) := by
  unfold givenAll; infer_instance
@[inherit_doc given_storable] instance returnedAll_storable (d : Dev nD) (c : Fin (grid0.bound 0)) : BI.Storable (upEmb : UEmb _ 𝕄) (returnedAll m d c) := by
  unfold returnedAll; infer_instance

/-- The launch has as many cores as its grid has along its first axis. -/
theorem nCore_zero : (K (F := F)).nCore 0 = grid0.bound 0 := rfl
/-- And as many tiles on each as the grid has along its second axis. -/
theorem nSub_zero : (K (F := F)).nSub 0 = grid0.bound 1 := rfl

/-- The call takes the tiles' shares of the three arrays, and each tile its own. -/
def P : (K (F := F)).Pay (nD := nD) (Val := Elt F) (Name := ℕ) (U := UU) where
  st := fun q d c => match q with | 0 => givenAll m d (Fin.cast nCore_zero c)
  dn := fun q d c => match q with | 0 => returnedAll m d (Fin.cast nCore_zero c)
  go := fun q d c s => match q with | 0 => given m d (Fin.cast nCore_zero c) (Fin.cast nSub_zero s)
  td := fun q d c s => match q with | 0 => returned m d (Fin.cast nCore_zero c) (Fin.cast nSub_zero s)
  x := fun _ _ => iprop(emp)

/-- The call's fields, spelled out. -/
theorem P_st (d : Dev nD) (c : Fin ((K (F := F)).nCore 0)) : (P m).st 0 d c = givenAll m d (Fin.cast nCore_zero c) := by
  unfold P; dsimp only
@[inherit_doc P_st] theorem P_dn (d : Dev nD) (c : Fin ((K (F := F)).nCore 0)) :
    (P m).dn 0 d c = returnedAll m d (Fin.cast nCore_zero c) := by
  unfold P; dsimp only
@[inherit_doc P_st] theorem P_go (d : Dev nD) (c : Fin ((K (F := F)).nCore 0)) (s : Fin ((K (F := F)).nSub 0)) :
    (P m).go 0 d c s = given m d (Fin.cast nCore_zero c) (Fin.cast nSub_zero s) := rfl
@[inherit_doc P_st] theorem P_td (d : Dev nD) (c : Fin ((K (F := F)).nCore 0)) (s : Fin ((K (F := F)).nSub 0)) :
    (P m).td 0 d c s = returned m d (Fin.cast nCore_zero c) (Fin.cast nSub_zero s) := rfl

/-- The call's SparseCores and tiles are the grid's. -/
theorem over_cores (Φ : Fin (grid0.bound 0) → sProp 𝕄) : (bigSep Finset.univ fun c : Fin ((K (F := F)).nCore 0) => Φ (Fin.cast nCore_zero c)) = bigSep Finset.univ Φ :=
  (bigSep_univ_equiv (finCongr (nCore_zero (F := F))) Φ).symm
@[inherit_doc over_cores] theorem over_tiles (Φ : Fin (grid0.bound 1) → sProp 𝕄) :
    (bigSep Finset.univ fun s : Fin ((K (F := F)).nSub 0) => Φ (Fin.cast nSub_zero s)) = bigSep Finset.univ Φ :=
  (bigSep_univ_equiv (finCongr (nSub_zero (F := F))) Φ).symm

/-- Everything the handshakes carry may be kept by them. -/
instance P_storable : (P (F := F) m).IsStorable where
  st q _ _ := match q with | 0 => by unfold P; infer_instance
  dn q _ _ := match q with | 0 => by unfold P; infer_instance
  go q _ _ _ := match q with | 0 => by unfold P; infer_instance
  td q _ _ _ := match q with | 0 => by unfold P; infer_instance

/-! ## A tile's buffers and semaphores among its own -/

section Tile

variable (d : Dev nD) (i : grid0.Coords)

/-- The tile's five semaphores. -/
def cells : Finset (GSem nD τ sig) :=
  {(thr d i, .dma cc0_scratch5.sem), (thr d i, .dma cc0_scratch6.sem), (thr d i, .dma cc0_scratch7.sem), (thr d i, .dma cc0_scratch8.sem),
    (thr d i, .dma cc0_scoped0.sem)}

/-- A tile's named counters are among the counters of its thread. -/
theorem cells_own : cells d i ⊆ ownCells (thr d i) := by
  have all : ∀ s : DmaSem sig, SemLoc.isScoped .scVector (SemLoc.dma s : SemLoc sig) = true := by decide
  intro g hg
  simp only [cells, Finset.mem_insert, Finset.mem_singleton] at hg
  rcases hg with rfl | rfl | rfl | rfl | rfl <;> exact mem_ownCells.mpr ⟨rfl, all _⟩

/-- The tile's own semaphores at zero are its five, idle, and the rest. -/
theorem sems_split : (ownSems0 (thr d i) : sProp 𝕄) = iprop(Idle d i ∗ bigSep (ownCells (thr d i) \ cells d i) fun g => semVal g 0) := by
  unfold SparseCore.Cfg.ownSems0
  rw [SparseCore.bigSep_sdiff_split' (cells_own d i)]
  congr 1
  unfold cells
  rw [SparseCore.bigSep_insert' (by simp; decide), SparseCore.bigSep_insert' (by simp; decide), SparseCore.bigSep_insert' (by simp; decide),
    SparseCore.bigSep_insert' (by simp; decide), bigSep_singleton]

/-- The tile's five buffers. -/
def bufs : Finset (Ref sig .scVector) := {cc0_scratch0, cc0_scratch1, cc0_scratch2, cc0_scratch3, cc0_scratch4}

/-- The tile's own buffers, whatever they hold, are its five and the rest. -/
theorem bufs_split : (ownBufs (thr d i) : sProp 𝕄)
    = iprop(Buffers d i ∗ bigSep (ownRefs (thr d i).2 \ bufs.map ⟨(thr d i).2.devRef, Proc.devRef_injective _⟩) fun b =>
        iprop(∃ f, ((d, b) : Loc nD τ sig) ↦{fullShare} f)) := by
  unfold SparseCore.Cfg.ownBufs
  rw [SparseCore.bigSep_sdiff_split' (t := bufs.map ⟨(thr d i).2.devRef, Proc.devRef_injective _⟩)]
  · congr 1
    rw [bigSep_map]
    unfold bufs
    rw [SparseCore.bigSep_insert' (show (cc0_scratch0 : Ref sig .scVector) ∉ {cc0_scratch1, cc0_scratch2, cc0_scratch3, cc0_scratch4} by decide),
      SparseCore.bigSep_insert' (show (cc0_scratch1 : Ref sig .scVector) ∉ {cc0_scratch2, cc0_scratch3, cc0_scratch4} by decide),
      SparseCore.bigSep_insert' (show (cc0_scratch2 : Ref sig .scVector) ∉ {cc0_scratch3, cc0_scratch4} by decide),
      SparseCore.bigSep_insert' (show (cc0_scratch3 : Ref sig .scVector) ∉ {cc0_scratch4} by decide), bigSep_singleton]
    rfl
  · intro b hb
    obtain ⟨r, hr, rfl⟩ := Finset.mem_map.mp hb
    simp only [bufs, Finset.mem_insert, Finset.mem_singleton] at hr
    rcases hr with rfl | rfl | rfl | rfl | rfl <;> exact SparseCore.Cfg.mem_ownRefs_of_owner rfl

end Tile

/-! ## The tile program under the launch -/

/-- The tile program of the launch table. -/
abbrev body (i : grid0.Coords) : TProg F i PUnit :=
  cc0_body (F := F) i xA (Memref.isWhole_whole _) bA (Memref.isWhole_whole _)
    oA (Memref.isWhole_whole _) bT (Memref.isWhole_whole _) x0 (Memref.isWhole_whole _) x1 (Memref.isWhole_whole _) o0 (Memref.isWhole_whole _)
    o1 (Memref.isWhole_whole _) cc0_scratch5 cc0_scratch6 cc0_scratch7 cc0_scratch8 cc0_scoped0

/-- The label of the launch, at a tile, runs the printed body there. -/
theorem defs₀_vector (c : Fin τ.nSC) (s : Fin τ.nSub) :
    defs₀ (F := F) (.scVector c s) 0 () = SparseCore.onTile hcore0 hsub0 (fun c s => body (F := F) (coordsV c s)) ⟨⟩ c s := rfl

/-- What the tile program leaves of the arrays is what the tile hands back. -/
theorem returned_of (d : Dev nD) (c : Fin (grid0.bound 0)) (s : Fin (grid0.bound 1)) :
    iprop(holds d (coordsV c s) bA (tileShare c s) (m (bLoc d)) ∗ bigSep Finset.univ (XIn d (coordsV c s) (m (xLoc d)))
        ∗ bigSep Finset.univ (OOut d (coordsV c s) (result d (coordsV c s) (m (xLoc d)) (m (bLoc d)))))
      ⊢ returned m d c s := by
  unfold returned dealt
  exact fun _ h => h

/-- What a tile hands back, beside the launch's own bookkeeping. -/
theorem wp_tile (d : Dev nD) (c : Fin (grid0.bound 0)) (s : Fin (grid0.bound 1)) (O : CellTallies nD τ sig (HIx 1)) (W : Waits sig (HIx 1))
    (hO : ∀ g, O g none = 0) :
    iprop(levAts (K (F := F)).L (K (F := F)).lev ∗ emp ∗ given m d c s ∗ scopedBufs (thr d (coordsV c s)) ∗ scopedSems0 (thr d (coordsV c s))
        ∗ owes (thr d (coordsV c s)) O W)
      ⊢ runs d (coordsV c s) (body (coordsV c s)) fun _ =>
          iprop(returned m d c s ∗ scopedBufs (thr d (coordsV c s)) ∗ scopedSems0 (thr d (coordsV c s))
            ∗ ∃ W', ⌜∀ p ∈ W', p ∈ W ∨ p.2 = none ∨ p.2 = some (0 : Fin 1)⌝ ∗ owes (thr d (coordsV c s)) O W') := by
  unfold body runs
  rw [body_eq, (K (F := F)).scopedBufs_V facts, SparseCore.Cfg.scopedSems0_V (Val := Elt F)]
  rw [sems_split, bufs_split]
  iintro ⟨#Hlv, -, Hg, ⟨Hb, Hbs⟩, ⟨Hs, Hss⟩, HO⟩
  ihave #Hm := ((K (F := F)).mayWaits_none (thr := thr d (coordsV c s)) hO) $$ Hlv
  iapply (wp_wand_r frame (wpE (defs₀ (F := F)) 𝒱₀ (thr d (coordsV c s)) none) Set.univ)
  isplitl [Hg Hb Hs HO]
  · iapply (wp_task d (coordsV c s) (m (xLoc d)) (m (bLoc d)) (m (oLoc d)) O W (tileShare c s))
    isplitl [Hg]; · unfold given dealt; iexact Hg
    isplitl [Hb]; · iexact Hb
    isplitl [Hs]; · iexact Hs
    isplitl [HO]
    · iexists W
      isplitr
      · ipureintro; exact fun p hp => .inl hp
      · iexact HO
    · iexact Hm
  iintro %_ ⟨Hg, Hb, Hs, %W', %hW, HO⟩
  isplitl [Hg]; · iapply (returned_of m d c s) $$ Hg
  isplitl [Hb Hbs]; · isplitl [Hb] <;> iassumption
  isplitl [Hs Hss]; · isplitl [Hs] <;> iassumption
  iexists W'
  isplitr
  · ipureintro; exact fun p hp => (hW p hp).imp_right .inl
  · iexact HO

/-- The launch theorem's obligation for a tile. -/
theorem tileObl : (K (F := F)).TileObl (D (F := F)) 𝒱 (P m) v₀ 0 := by
  intro d c s O W hO _ _
  simp only [show (P m).ox = fun _ _ => 0 from rfl, add_zero]
  change _ ⊢ wp _ _ _ (Pipeline.liftProg (defs₀ (F := F) (.scVector ((K (F := F)).core 0 c) ((K (F := F)).sub 0 s)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 s).val < grid0.bound 1 := ⟨c.isLt, s.isLt⟩
  rw [defs₀_vector]
  simp only [SparseCore.onTile, hc, and_self, ↓reduceDIte]
  exact wp_tile m d ⟨_, hc.1⟩ ⟨_, hc.2⟩ O W hO

/-- A SparseCore's operands are its tiles' together, and so are its results. -/
theorem vecSplit : (K (F := F)).VecSplit' (P m) 0 := by
  intro d c
  rw [P_st, P_dn, bigSep_congr fun s _ => P_go m d c s, bigSep_congr fun s _ => P_td m d c s,
    over_tiles (F := F) fun s => given m d (Fin.cast nCore_zero c) s, over_tiles (F := F) fun s => returned m d (Fin.cast nCore_zero c) s]
  unfold givenAll returnedAll
  iintro H
  imodintro
  isplitl; · iexact H
  iintro H
  iexact H

/-! ## The launch's ghost state -/

/-- The ghost state at the start: the handshakes at their first round, and nothing of the copies. -/
def u₀ : UU := (initOf (K (F := F)).hsCells (K (F := F)).hsToks, 1)

/-- Nothing for nobody. -/
theorem nothing {I : Type} (s : Finset I) : (bigSep s fun _ => iprop(emp)) = (iprop(emp) : sProp 𝕄) := bigSep_emp_const s

/-- The ghost state at the start gives the handshakes their start. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun t : Thread nD τ => bigSep Finset.univ fun q : Fin 1 => (P m).x q t) := by
  unfold u₀ P
  dsimp only
  simp only [nothing]
  iintro H
  ihave H := (ownU_pair _ _) $$ H
  icases H with ⟨H, -⟩
  imodintro
  isplitl [H]; · iexact H
  isplitr <;> iempintro

/-! ## The program on the TensorCore -/

/-- The three arrays of device `d`, the result at contents `Y`. -/
abbrev arrays (d : Dev nD) (Y : Buf (Elt F) (oLoc d)) : sProp 𝕄 :=
  iprop((bLoc d ↦{fullShare} m (bLoc d)) ∗ (xLoc d ↦{fullShare} m (xLoc d)) ∗ oLoc d ↦{fullShare} Y)

/-- The launch hands the TensorCore the three arrays. -/
theorem unscopedBufs_eq (d : Dev nD) : (unscopedBufs d (fun b => m ((d.tc : Thread nD τ).loc b)) : sProp 𝕄) ⊢ arrays m d (m (oLoc d)) := by
  unfold unscopedBufs
  rw [show (Finset.univ.filter fun b : Ref sig .tc => ¬ b.isScoped) = {main_arg1, main_arg0, main_v0} by decide,
    SparseCore.bigSep_insert' (by decide), SparseCore.bigSep_insert' (by decide), bigSep_singleton]

/-- What the cores are started with is the arrays as they stand before the launch. -/
theorem starts (d : Dev nD) : (bigSep Finset.univ fun c : Fin ((K (F := F)).nCore 0) => (P m).st 0 d c) = arrays m d (m (oLoc d)) := by
  rw [bigSep_congr fun c _ => P_st m d c, over_cores (F := F) fun c => givenAll m d c]
  unfold givenAll
  exact (arrays_dealt d (m (xLoc d)) (m (bLoc d)) (m (oLoc d))).symm
/-- What the cores hand back is the arrays with the result in place. -/
theorem ends (d : Dev nD) : (bigSep Finset.univ fun c : Fin ((K (F := F)).nCore 0) => (P m).dn 0 d c) = arrays m d (answer m d) := by
  rw [bigSep_congr fun c _ => P_dn m d c, over_cores (F := F) fun c => returnedAll m d c]
  unfold returnedAll
  exact (arrays_dealt d (m (xLoc d)) (m (bLoc d)) (answer m d)).symm

/-- The program of device `d`'s TensorCore is the one call: it hands the arrays out and takes them back. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ arrays m d (answer m d) ∗ (K (F := F)).tcEnd d) := by
  unfold SparseCore.Cfg.tcRes SparseCore.Cfg.tcEnd
  simp only [main, wp_bind, wp_pure]
  iintro ⟨#Hctx, Hst, ⟨Hb, Ha, Hts, -⟩, -⟩
  ihave Ha := (unscopedBufs_eq m d) $$ Ha
  iapply ((K (F := F)).wp_run (D (F := F)) 𝒱 (EH := EH) (P := P m) κ d 0) $$ [Hst Ha Hb Hts]
  isplitr; · iexact Hctx
  isplitl [Hst]; · iexact Hst
  isplitl [Ha]; · rw [starts]; iexact Ha
  iintro ⟨Hst, Hdn⟩
  ihave Ha := (Entails.of_eq (ends m d)) $$ Hdn
  imodintro
  isplitl [Hst]; · iexact Hst
  isplitl [Ha]; · iexact Ha
  isplitl [Hb] <;> iassumption

/-- What device `d`'s memory holds at the end. -/
def Ended (d : Dev nD) (mem : (ℓ : Loc nD τ sig) → Buf (Elt F) ℓ) : Prop :=
  mem (xLoc d) = m (xLoc d) ∧ mem (bLoc d) = m (bLoc d) ∧ mem (oLoc d) = answer m d

/-- An array held whole is in memory as it is held. -/
theorem in_memory (ℓ : Loc nD τ sig) (f : Buf (Elt F) ℓ) (s' : Phys nD τ sig (Elt F)) :
    iprop((ℓ ↦{fullShare} f) ∗ SI s') ⊢ (iprop(⌜s'.mem.mem ℓ = f⌝ ∗ SI s') : sProp 𝕄) := by
  iintro ⟨H, HSI⟩
  ihave H := (persistent_entails_right (SI_pointsTo_agree (st := s') (ℓ := ℓ) (I := Finset.univ) (q := fullShare) (f := f))) $$ [HSI H]
  · isplitl [HSI] <;> iassumption
  icases H with ⟨%h, HSI, -⟩
  isplitr
  · ipureintro; exact funext fun j => h j (Finset.mem_univ j)
  · iexact HSI

/-- Holding the three arrays at the end, the memory has the result and the unchanged arguments. -/
theorem hfin (d : Dev nD) (s' : Phys nD τ sig (Elt F)) : iprop(arrays m d (answer m d) ∗ SI s') ⊢ (⌜Ended m d s'.mem.mem⌝ : sProp 𝕄) := by
  iintro ⟨⟨Hb, Hx, Ho⟩, HSI⟩
  ihave H := (in_memory (bLoc d) _ s') $$ [Hb HSI]
  · isplitl [Hb] <;> iassumption
  icases H with ⟨%hb, HSI⟩
  ihave H := (in_memory (xLoc d) _ s') $$ [Hx HSI]
  · isplitl [Hx] <;> iassumption
  icases H with ⟨%hx, HSI⟩
  ihave H := (in_memory (oLoc d) _ s') $$ [Ho HSI]
  · isplitl [Ho] <;> iassumption
  icases H with ⟨%ho, -⟩
  ipureintro
  exact ⟨hx, hb, ho⟩

/-! ## The run -/

/-- Every run of the program ends, with the input and the table as they were, the result counted, and every semaphore at
    zero. -/
theorem run_main [∀ e, Nonempty (Elt F e)] :
    θ_run (Cert.KernelIdeal.defs (F := F)) (Cert.KernelIdeal.threads (F := F)) ⟨m, fun _ => 0, ρ⟩
      fun r => (∀ d : Dev nD, Ended m d r.2.mem) ∧ r.2.sem = fun _ => 0 :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m)
    (fun q _ => match q with | 0 => SparseCore.Cfg.VecSplit.of_plain (vecSplit m))
    m ρ main (fun _ => iprop(emp)) (fun d => arrays m d (answer m d)) (u₀ (F := F)) (sep_elim_left.trans (hu₀ m)) (hmain m ρ)
    (fun d s' => Ended m d s'.mem.mem) (hfin m) (fun r => (∀ d : Dev nD, Ended m d r.2.mem) ∧ r.2.sem = fun _ => 0) (fun _ h hz => ⟨h, hz⟩)

end Cert.Proof.KernelIdeal

end
-- ==== Proof.Counting.lean ====
/-
  The binary search counts. For a boundary table in ascending order, the entries at most a value are the first `n` of the
  thirty-two, for some `n`; each comparison of the search keeps `n` between its lower end and its lower end plus what it
  may still add, so the five comparisons and the last one together end at `n`.
-/
module

public import proofs.«01_k».proof.Proof.Search
public import Idealize.ShloMosaic.Lib.StableHlo.Predicate
public import Idealize.ShloMosaic.Lib.Pointwise.Select

@[expose] public section

noncomputable section

namespace Cert.Proof.Counting

open Idealize.ShloMosaic
open Cert.Proof.Search

/-! ## A lower set of the thirty-two entries is an initial stretch -/

/-- If a property passes down to smaller entries, it holds of exactly as many first entries as it holds of entries. -/
theorem lower_iff {N : ℕ} (p : Fin N → Prop) [DecidablePred p] (hp : ∀ q r : Fin N, r ≤ q → p q → p r) (q : Fin N) :
    p q ↔ q.val < (Finset.univ.filter p).card := by
  constructor
  · intro h
    have hsub : Finset.Iic q ⊆ Finset.univ.filter p := fun r hr => Finset.mem_filter.mpr ⟨Finset.mem_univ _, hp q r (Finset.mem_Iic.mp hr) h⟩
    have := Finset.card_le_card hsub
    rw [Fin.card_Iic] at this
    omega
  · intro h
    by_contra hq
    have hsub : Finset.univ.filter p ⊆ Finset.Iio q := fun r hr => by
      rw [Finset.mem_Iio]
      by_contra hr'
      exact hq (hp r q (not_lt.mp hr') (Finset.mem_filter.mp hr).2)
    have := Finset.card_le_card hsub
    rw [Fin.card_Iio] at this
    omega

/-! ## The search -/

section Search

variable {F : FTy → Type} [FloatOps F]

/-- The entries at most `v` are the first `n`. -/
def FirstN (b : FVec F TabS .f32) (v : F .f32) (n : ℕ) : Prop :=
  ∀ q : Fin 32, FloatOps.cmpf .ole (b (Shape.Idx.ofFin q)) v = 1#1 ↔ q.val < n

/-- The entry a word below 32 names. -/
theorem entry_eq {w : BitVec 32} (h : w.toNat < 32) : entry w = Shape.Idx.ofFin (⟨w.toNat, h⟩ : Fin 32) := by
  funext a
  have ha : a = 0 := Subsingleton.elim _ _
  subst ha
  exact Fin.ext (Nat.mod_eq_of_lt h)

variable {b : FVec F TabS .f32} {v : F .f32} {n : ℕ}

/-- A probe at a word below 32 says whether the word is below `n`. -/
theorem probe_iff (hn : FirstN b v n) {w : BitVec 32} (h : w.toNat < 32) : FloatOps.cmpf .ole (b (entry w)) v = 1#1 ↔ w.toNat < n := by
  rw [entry_eq h]
  exact hn ⟨w.toNat, h⟩

/-- A comparison halves the stretch `n` is known to lie in. -/
theorem halve_between (hn : FirstN b v n) {lo d w : BitVec 32} {top : ℕ} (ht : lo.toNat ≤ top) (hd : top + w.toNat ≤ 32) (hw : w.toNat = d.toNat + 1)
    (h : lo.toNat ≤ n ∧ n ≤ lo.toNat + 2 * w.toNat) :
    (halve b v lo d w).toNat ≤ n ∧ n ≤ (halve b v lo d w).toNat + w.toNat := by
  have e : (lo + d).toNat = lo.toNat + d.toNat := by rw [BitVec.toNat_add]; exact Nat.mod_eq_of_lt (by omega)
  have e' : (lo + w).toNat = lo.toNat + w.toNat := by rw [BitVec.toNat_add]; exact Nat.mod_eq_of_lt (by omega)
  have key := probe_iff hn (w := lo + d) (by omega)
  unfold halve Scalar.select
  split
  · next hc => have := key.mp hc; omega
  · next hc => have := mt key.mpr hc; omega

/-- The search ends at `n`. -/
theorem count_toNat (hn : FirstN b v n) (h32 : n ≤ 32) : (Search.count b v).toNat = n := by
  have h1 : (lo1 b v).toNat ≤ n ∧ n ≤ (lo1 b v).toNat + 16 :=
    halve_between hn (lo := 0#32) (d := 15#32) (w := 16#32) (top := 0) (by decide) (by decide) (by decide) ⟨Nat.zero_le _, h32⟩
  have h2 : (lo2 b v).toNat ≤ n ∧ n ≤ (lo2 b v).toNat + 8 :=
    halve_between hn (d := 7#32) (w := 8#32) (lo1_le b v) (by decide) (by decide) h1
  have h3 : (lo3 b v).toNat ≤ n ∧ n ≤ (lo3 b v).toNat + 4 :=
    halve_between hn (d := 3#32) (w := 4#32) (lo2_le b v) (by decide) (by decide) h2
  have h4 : (lo4 b v).toNat ≤ n ∧ n ≤ (lo4 b v).toNat + 2 :=
    halve_between hn (d := 1#32) (w := 2#32) (lo3_le b v) (by decide) (by decide) h3
  have h5 : (slot b v).toNat ≤ n ∧ n ≤ (slot b v).toNat + 1 :=
    halve_between hn (d := 0#32) (w := 1#32) (lo4_le b v) (by decide) (by decide) h4
  have hs := slot_le b v
  have key := probe_iff hn (w := slot b v) (by omega)
  unfold Search.count
  rw [BitVec.toNat_add, StableHlo.Predicate.toNat_setWidth_bit]
  split
  · next hc => have := key.mp hc; omega
  · next hc => have := mt key.mpr hc; omega

end Search

/-! ## A sorted table of extended reals -/

/-- Each boundary is at most the next. -/
def Sorted (b : FVec Ideal TabS .f32) : Prop :=
  ∀ q : Fin 31, b (Shape.Idx.ofFin q.castSucc) ≤ b (Shape.Idx.ofFin q.succ)

/-- The boundaries at most `v`. -/
def atMost (b : FVec Ideal TabS .f32) (v : EReal) : Finset (Fin 32) := Finset.univ.filter fun q => b (Shape.Idx.ofFin q) ≤ v

/-- In a sorted table the boundaries at most a value are the first ones. -/
theorem firstN_of_sorted {b : FVec Ideal TabS .f32} (hb : Sorted b) (v : EReal) : FirstN (F := Ideal) b v (atMost b v).card := by
  intro q
  have mono : Monotone fun q : Fin 32 => b (Shape.Idx.ofFin q) := Fin.monotone_iff_le_succ.mpr hb
  refine (Ideal.cmp_ole_eq_one _ _).trans (lower_iff (fun q : Fin 32 => b (Shape.Idx.ofFin q) ≤ v) (fun q r hr h => (mono hr).trans h) q)

/-- For a sorted table the kernel's count is the number of boundaries at most the value. -/
theorem count_of_sorted {b : FVec Ideal TabS .f32} (hb : Sorted b) (v : EReal) : (Search.count (F := Ideal) b v).toNat = (atMost b v).card :=
  count_toNat (firstN_of_sorted hb v) ((Finset.card_le_univ _).trans (le_of_eq (Fintype.card_fin 32)))

end Cert.Proof.Counting

end
-- ==== Proof.Reference.lean ====
/-
  The reference's result and the precondition, read at an index. The reference compares every value with every boundary and
  adds up the widened bits of a row, so its result at an index is the number of boundaries at most the value there; the
  precondition, all of whose comparisons of neighbours must hold, says the boundaries ascend.
-/
module

public import proofs.«01_k».proof.Proof.Counting
public import proofs.«01_k».proof.Proof.Gen.ReferenceIdeal.Run
public import proofs.«01_k».proof.Proof.Gen.Pre_sorted_boundaries

@[expose] public section

noncomputable section

namespace Cert.Proof.Reference

open Idealize.ShloMosaic Idealize.ShloMosaic.StableHlo.Predicate
open Cert.Proof.Search Cert.Proof.Counting

/-! ## The precondition -/

/-- A conjunction of bits that comes out set has every bit set. -/
theorem all_of_fold {ι : Type} [DecidableEq ι] (S : Finset ι) (f : ι → BitVec 1) (h : S.fold IntOp.andi 1#1 f = 1#1) : ∀ i ∈ S, f i = 1#1 := by
  induction S using Finset.cons_induction with
  | empty => intro i hi; exact absurd hi (Finset.notMem_empty i)
  | cons a S ha ih =>
    rw [Finset.fold_cons] at h
    have both : ∀ x y : BitVec 1, IntOp.andi x y = 1#1 → x = 1#1 ∧ y = 1#1 := by decide
    obtain ⟨h₁, h₂⟩ := both _ _ h
    intro i hi
    rcases Finset.mem_cons.mp hi with rfl | hi
    · exact h₁
    · exact ih h₂ i hi

/-- The precondition says the boundaries ascend. -/
theorem sorted_of_pre [Cert.Pre_sorted_boundaries.Facts] (x : FVec Ideal Cert.Pre_sorted_boundaries.S16777216 .f32)
    (b : FVec Ideal Cert.Pre_sorted_boundaries.S32 .f32) (h : Cert.Pre_sorted_boundaries.fn (F := Ideal) x b = fun _ => 1#1) : Sorted b := by
  intro q
  have h0 := congrFun h (fun a => a.elim0)
  unfold Cert.Pre_sorted_boundaries.fn at h0
  dsimp only at h0
  rw [Host.reduce_eq_fold] at h0
  have hq := all_of_fold _ _ h0 (Shape.Idx.ofFin (n := 31) q) (Finset.mem_filter.mpr ⟨Finset.mem_univ _, funext fun a => a.elim0⟩)
  have hle := (Ideal.cmp_ole_eq_one _ _).mp hq
  unfold extractStridedSlice at hle
  refine le_of_eq_of_le (congrArg b ?_) (hle.trans_eq (congrArg b ?_))
  · funext a
    have ha : a = 0 := Subsingleton.elim _ _
    subst ha
    exact Fin.ext (Nat.zero_add _).symm
  · funext a
    have ha : a = 0 := Subsingleton.elim _ _
    subst ha
    exact Fin.ext (Nat.add_comm _ _)

/-! ## The reference's result -/

open Cert.ReferenceIdeal Cert.ReferenceIdeal.Gen in
/-- What the reference computes of its arguments. -/
def value (x : FVec Ideal S16777216 .f32) (b : FVec Ideal S32 .f32) : IVec S16777216 32 :=
  Host.reduce IntOp.addi (extui 32 (cmpf .ole (broadcastInDim S16777216x32 ![0, 1] bcast_S1x32_S16777216x32_0_1 (broadcastInDim S1x32 ![1] bcast_S32_S1x32_1 b))
    (broadcastInDim S16777216x32 ![0, 1] bcast_S16777216x1_S16777216x32_0_1 (broadcastInDim S16777216x1 ![0] bcast_S16777216_S16777216x1_0 x))) natLt_1_32)
    (constantI S_ 32 0#32) reducesTo_S16777216x32_S16777216_d1 h_S_

open Cert.ReferenceIdeal Cert.ReferenceIdeal.Gen in
/-- At an index, the reference's result is the number of boundaries at most the value there. -/
theorem value_toNat (x : FVec Ideal S16777216 .f32) (b : FVec Ideal S32 .f32) (j : S16777216.Idx) : (value x b j).toNat = (atMost b (x j)).card := by
  unfold value
  refine (toNat_reduce_count_cols (by decide) _ _ _ _ j).trans (congrArg Finset.card (Finset.filter_congr fun q _ => ?_))
  refine Iff.trans (b := Ideal.cmp .ole (b (Shape.Idx.ofFin q)) (x (Shape.Idx.ofFin (j 0))) = 1#1) (iff_of_eq (congrArg (· = 1#1) ?_)) ?_
  · exact congrArg₂ (Ideal.cmp .ole) (bcast_cols _ _ b (j 0) q) (bcast_rows _ _ x (j 0) q)
  · rw [show x (Shape.Idx.ofFin (j 0)) = x j from congrArg x (funext fun a => by
      have ha : a = 0 := Subsingleton.elim _ _
      subst ha
      rfl)]
    exact Ideal.cmp_ole_eq_one _ _

/-- For a sorted table the kernel's count at an index is the reference's result there. -/
theorem count_eq_value (x : FVec Ideal Cert.ReferenceIdeal.S16777216 .f32) (b : FVec Ideal Cert.ReferenceIdeal.S32 .f32) (hb : Sorted b) :
    (fun j => Search.count (F := Ideal) b (x j)) = value x b :=
  funext fun j => BitVec.eq_of_toNat_eq ((count_of_sorted hb (x j)).trans (value_toNat x b j).symm)

end Cert.Proof.Reference

end
-- ==== Proof.lean ====
/-
  The certificate. The kernel's run (`Proof/Kernel/`, and the same at the idealized program in `Proof/KernelIdeal/`) ends
  with the arguments unchanged, the result holding the search's count of every value, and every counter at zero: dropping
  the values gives the frames. The reference's run ends with its own expression of the arguments (`Proof/Gen/ReferenceIdeal/Run`),
  which for ascending boundaries is the same array of counts (`Proof/Reference.lean`).
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_sorted_boundaries
public import proofs.«01_k».proof.Proof.Kernel.Launch
public import proofs.«01_k».proof.Proof.KernelIdeal.Launch
public import proofs.«01_k».proof.Proof.Reference

@[expose] public section

noncomputable section

namespace Cert.Proof

open Idealize.ShloMosaic Idealize.SL.Sem

local instance : Cert.Kernel.Facts := Cert.Kernel.Gen.facts
local instance : Cert.KernelIdeal.Facts := Cert.KernelIdeal.Gen.facts
local instance : Cert.ReferenceIdeal.Facts := Cert.ReferenceIdeal.Gen.facts
local instance : Cert.Pre_sorted_boundaries.Facts := Cert.Pre_sorted_boundaries.Gen.facts

/-- The kernel's frame, over the machine's floats. -/
theorem frame_kernel : Cert.quiescent_Kernel := fun m g _ =>
  (θ_run _ _ _).mono (fun _ h => ⟨fun c => ⟨(h.1 c).1, (h.1 c).2.1⟩, h.2⟩) (Kernel.run_main (F := Bits) m g)

/-- The idealized kernel's frame. -/
theorem frame_kernelIdeal : Cert.quiescent_KernelIdeal := fun m g _ =>
  (θ_run _ _ _).mono (fun _ h => ⟨fun c => ⟨(h.1 c).1, (h.1 c).2.1⟩, h.2⟩) (KernelIdeal.run_main (F := Ideal) m g)

/-- The idealized kernel's frame on ascending boundaries: a case of the frame. -/
theorem frame_kernelIdeal_sorted : Cert.quiescent_KernelIdeal_pre_sorted_boundaries := fun m g _ => frame_kernelIdeal m g trivial

/-- The reference's frame; its program names no semaphore. -/
theorem frame_reference : Cert.quiescent_ReferenceIdeal := fun m g _ =>
  (θ_run _ _ _).mono (fun r h => ⟨fun c => (h c).2, sem_eq_zero_of_no_sems (by decide) r.2⟩) (Cert.ReferenceIdeal.Value.run m g)

/-- The reference's frame on ascending boundaries: a case of the frame. -/
theorem frame_reference_sorted : Cert.quiescent_ReferenceIdeal_pre_sorted_boundaries := fun m g _ => frame_reference m g trivial

/-- On ascending boundaries the kernel and the reference end with the same counts. -/
theorem same_counts : Cert.algebraic_KernelIdeal_ReferenceIdeal_pre_sorted_boundaries := by
  intro m g m' g' hpre hagree
  refine ⟨fun c => KernelIdeal.answer (F := Ideal) m c, ?_, ?_⟩
  · exact (θ_run _ _ _).mono (fun _ h c => ⟨(h.1 c).2.2, (h.1 c).1, (h.1 c).2.1⟩) (KernelIdeal.run_main (F := Ideal) m g)
  · refine (θ_run _ _ _).mono (fun _ h c => ⟨(h c).1.trans ?_, (h c).2⟩) (Cert.ReferenceIdeal.Value.run m' g')
    rw [(hagree c).1, (hagree c).2]
    exact (Reference.count_eq_value _ _ (Reference.sorted_of_pre _ _ (hpre c))).symm

/-- The certificate: every claim together, with the facts that the programs state. -/
theorem claim : Cert.Claim :=
  ⟨Cert.Kernel.Gen.facts, Cert.KernelIdeal.Gen.facts, Cert.ReferenceIdeal.Gen.facts, Cert.Pre_sorted_boundaries.Gen.facts,
    frame_kernel, frame_kernelIdeal, frame_kernelIdeal_sorted, frame_reference, frame_reference_sorted, trivial, same_counts⟩

end Cert.Proof

end
